-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1 : Shape := ⟨2, ![16384, 1]⟩
abbrev S128x128 : Shape := ⟨2, ![128, 128]⟩

abbrev nBuf : Space → Nat
  | .hbm => 8
  | .vmem => 4
  | .smem => 0
  | _ => 0

abbrev bufTy : (tb : Table) → Fin (tcTables nBuf tb) → BufTy
  | .hbm, ⟨0, _⟩ => ⟨S16384x1, .f32⟩
  | .hbm, ⟨1, _⟩ => ⟨S128x128, .f32⟩
  | .hbm, ⟨2, _⟩ => ⟨S128x128, .i32⟩
  | .hbm, ⟨3, _⟩ => ⟨S128x128, .f32⟩
  | .hbm, ⟨4, _⟩ => ⟨S128x128, .f32⟩
  | .hbm, ⟨5, _⟩ => ⟨S16384x1, .i32⟩
  | .hbm, ⟨6, _⟩ => ⟨S16384x1, .f32⟩
  | .hbm, ⟨7, _⟩ => ⟨S16384x1, .f32⟩
  | .local _ .vmem, ⟨0, _⟩ => ⟨S128x128, .f32⟩
  | .local _ .vmem, ⟨1, _⟩ => ⟨S128x128, .i32⟩
  | .local _ .vmem, ⟨2, _⟩ => ⟨S128x128, .f32⟩
  | .local _ .vmem, ⟨3, _⟩ => ⟨S128x128, .f32⟩
  | _, _ => ⟨S16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16384x1 : Shape := ⟨2, ![16384, 1]⟩
abbrev S_ : Shape := ⟨0, ![]⟩
abbrev S16384x2 : Shape := ⟨2, ![16384, 2]⟩
abbrev S16384 : Shape := ⟨1, ![16384]⟩
abbrev S1 : Shape := ⟨1, ![1]⟩
abbrev S2 : Shape := ⟨1, ![2]⟩
abbrev S1x1 : Shape := ⟨2, ![1, 1]⟩
abbrev S16384x1x1 : Shape := ⟨3, ![16384, 1, 1]⟩
abbrev S1x1x1 : Shape := ⟨3, ![1, 1, 1]⟩

abbrev nBuf : Space → Nat
  | .hbm => 325
  | .vmem => 0
  | .smem => 0
  | _ => 0

abbrev hbmTy0_0 (i : Nat) : BufTy := match i % 128 with
  | 0 => ⟨S16384x1, .f32⟩
  | 1 => ⟨S16384x1, .f32⟩
  | 2 => ⟨S16384x1, .f32⟩
  | 3 => ⟨S_, .f32⟩
  | 4 => ⟨S16384x1, .f32⟩
  | 5 => ⟨S16384x1, .f32⟩
  | 6 => ⟨S_, .f32⟩
  | 7 => ⟨S16384x1, .f32⟩
  | 8 => ⟨S16384x1, .f32⟩
  | 9 => ⟨S_, .f32⟩
  | 10 => ⟨S16384x1, .f32⟩
  | 11 => ⟨S16384x1, .f32⟩
  | 12 => ⟨S16384x2, .f32⟩
  | 13 => ⟨S16384x2, .f32⟩
  | 14 => ⟨S16384x2, .f32⟩
  | 15 => ⟨S_, .f32⟩
  | 16 => ⟨S16384, .f32⟩
  | 17 => ⟨S16384x1, .f32⟩
  | 18 => ⟨S16384x1, .f32⟩
  | 19 => ⟨S_, .i32⟩
  | 20 => ⟨S_, .i32⟩
  | 21 => ⟨S_, .i32⟩
  | 22 => ⟨S_, .i32⟩
  | 23 => ⟨S1, .i32⟩
  | 24 => ⟨S_, .i32⟩
  | 25 => ⟨S_, .i32⟩
  | 26 => ⟨S_, .i32⟩
  | 27 => ⟨S1, .i32⟩
  | 28 => ⟨S2, .i32⟩
  | 29 => ⟨S_, .f32⟩
  | 30 => ⟨S_, .f32⟩
  | 31 => ⟨S_, .f32⟩
  | 32 => ⟨S1x1, .f32⟩
  | 33 => ⟨S1x1, .f32⟩
  | 34 => ⟨S1, .i32⟩
  | 35 => ⟨S_, .i32⟩
  | 36 => ⟨S1, .i32⟩
  | 37 => ⟨S_, .i32⟩
  | 38 => ⟨S16384x2, .i64⟩
  | 39 => ⟨S16384x2, .i64⟩
  | 40 => ⟨S_, .i64⟩
  | 41 => ⟨S16384x2, .i64⟩
  | 42 => ⟨S16384x2, .i64⟩
  | 43 => ⟨S_, .i64⟩
  | 44 => ⟨S16384x2, .i64⟩
  | 45 => ⟨S16384x2, .i64⟩
  | 46 => ⟨S16384x2, .i64⟩
  | 47 => ⟨S_, .i64⟩
  | 48 => ⟨S16384x2, .i64⟩
  | 49 => ⟨S16384x2, .i64⟩
  | 50 => ⟨S16384x2, .i32⟩
  | 51 => ⟨S16384x2, .i32⟩
  | 52 => ⟨S_, .i32⟩
  | 53 => ⟨S_, .i32⟩
  | 54 => ⟨S_, .i32⟩
  | 55 => ⟨S16384x2, .i32⟩
  | 56 => ⟨S16384x2, .i32⟩
  | 57 => ⟨S16384x2, .i32⟩
  | 58 => ⟨S16384x2, .i32⟩
  | 59 => ⟨S16384x2, .i32⟩
  | 60 => ⟨S_, .i32⟩
  | 61 => ⟨S16384x2, .i32⟩
  | 62 => ⟨S16384x2, .i32⟩
  | 63 => ⟨S_, .i32⟩
  | 64 => ⟨S16384x2, .i32⟩
  | 65 => ⟨S16384x2, .i32⟩
  | 66 => ⟨S16384x2, .i32⟩
  | 67 => ⟨S16384x2, .i32⟩
  | 68 => ⟨S16384x2, .i32⟩
  | 69 => ⟨S_, .i32⟩
  | 70 => ⟨S16384x2, .i32⟩
  | 71 => ⟨S16384x2, .i32⟩
  | 72 => ⟨S_, .i32⟩
  | 73 => ⟨S16384x2, .i32⟩
  | 74 => ⟨S16384x2, .i32⟩
  | 75 => ⟨S16384x2, .i32⟩
  | 76 => ⟨S16384x2, .i32⟩
  | 77 => ⟨S16384x2, .i32⟩
  | 78 => ⟨S_, .i32⟩
  | 79 => ⟨S16384x2, .i32⟩
  | 80 => ⟨S16384x2, .i32⟩
  | 81 => ⟨S_, .i32⟩
  | 82 => ⟨S16384x2, .i32⟩
  | 83 => ⟨S16384x2, .i32⟩
  | 84 => ⟨S16384x2, .i32⟩
  | 85 => ⟨S16384x2, .i32⟩
  | 86 => ⟨S16384x2, .i32⟩
  | 87 => ⟨S_, .i32⟩
  | 88 => ⟨S16384x2, .i32⟩
  | 89 => ⟨S16384x2, .i32⟩
  | 90 => ⟨S_, .i32⟩
  | 91 => ⟨S16384x2, .i32⟩
  | 92 => ⟨S16384x2, .i32⟩
  | 93 => ⟨S16384x2, .i32⟩
  | 94 => ⟨S16384x2, .i32⟩
  | 95 => ⟨S16384x2, .i32⟩
  | 96 => ⟨S16384x2, .i32⟩
  | 97 => ⟨S16384x2, .i32⟩
  | 98 => ⟨S16384x2, .i32⟩
  | 99 => ⟨S_, .i32⟩
  | 100 => ⟨S16384x2, .i32⟩
  | 101 => ⟨S16384x2, .i32⟩
  | 102 => ⟨S16384x2, .i32⟩
  | 103 => ⟨S_, .i32⟩
  | 104 => ⟨S16384x2, .i32⟩
  | 105 => ⟨S16384x2, .i32⟩
  | 106 => ⟨S_, .i32⟩
  | 107 => ⟨S16384x2, .i32⟩
  | 108 => ⟨S16384x2, .i32⟩
  | 109 => ⟨S16384x2, .i32⟩
  | 110 => ⟨S16384x2, .i32⟩
  | 111 => ⟨S16384x2, .i32⟩
  | 112 => ⟨S_, .i32⟩
  | 113 => ⟨S16384x2, .i32⟩
  | 114 => ⟨S16384x2, .i32⟩
  | 115 => ⟨S_, .i32⟩
  | 116 => ⟨S16384x2, .i32⟩
  | 117 => ⟨S16384x2, .i32⟩
  | 118 => ⟨S16384x2, .i32⟩
  | 119 => ⟨S16384x2, .i32⟩
  | 120 => ⟨S16384x2, .i32⟩
  | 121 => ⟨S_, .i32⟩
  | 122 => ⟨S16384x2, .i32⟩
  | 123 => ⟨S16384x2, .i32⟩
  | 124 => ⟨S_, .i32⟩
  | 125 => ⟨S16384x2, .i32⟩
  | 126 => ⟨S16384x2, .i32⟩
  | 127 => ⟨S16384x2, .i32⟩
  | _ => ⟨S16384x1, .f32⟩

abbrev hbmTy0_1 (i : Nat) : BufTy := match i % 128 with
  | 0 => ⟨S16384x2, .i32⟩
  | 1 => ⟨S16384x2, .i32⟩
  | 2 => ⟨S_, .i32⟩
  | 3 => ⟨S16384x2, .i32⟩
  | 4 => ⟨S16384x2, .i32⟩
  | 5 => ⟨S_, .i32⟩
  | 6 => ⟨S16384x2, .i32⟩
  | 7 => ⟨S16384x2, .i32⟩
  | 8 => ⟨S16384x2, .i32⟩
  | 9 => ⟨S16384x2, .i32⟩
  | 10 => ⟨S16384x2, .i32⟩
  | 11 => ⟨S16384x2, .i32⟩
  | 12 => ⟨S16384x2, .i32⟩
  | 13 => ⟨S16384x2, .i32⟩
  | 14 => ⟨S_, .i32⟩
  | 15 => ⟨S16384x2, .i32⟩
  | 16 => ⟨S16384x2, .i32⟩
  | 17 => ⟨S16384x2, .i32⟩
  | 18 => ⟨S_, .i32⟩
  | 19 => ⟨S16384x2, .i32⟩
  | 20 => ⟨S16384x2, .i32⟩
  | 21 => ⟨S_, .i32⟩
  | 22 => ⟨S16384x2, .i32⟩
  | 23 => ⟨S16384x2, .i32⟩
  | 24 => ⟨S16384x2, .i32⟩
  | 25 => ⟨S16384x2, .i32⟩
  | 26 => ⟨S16384x2, .i32⟩
  | 27 => ⟨S_, .i32⟩
  | 28 => ⟨S16384x2, .i32⟩
  | 29 => ⟨S16384x2, .i32⟩
  | 30 => ⟨S_, .i32⟩
  | 31 => ⟨S16384x2, .i32⟩
  | 32 => ⟨S16384x2, .i32⟩
  | 33 => ⟨S16384x2, .i32⟩
  | 34 => ⟨S16384x2, .i32⟩
  | 35 => ⟨S16384x2, .i32⟩
  | 36 => ⟨S_, .i32⟩
  | 37 => ⟨S16384x2, .i32⟩
  | 38 => ⟨S16384x2, .i32⟩
  | 39 => ⟨S_, .i32⟩
  | 40 => ⟨S16384x2, .i32⟩
  | 41 => ⟨S16384x2, .i32⟩
  | 42 => ⟨S16384x2, .i32⟩
  | 43 => ⟨S16384x2, .i32⟩
  | 44 => ⟨S16384x2, .i32⟩
  | 45 => ⟨S_, .i32⟩
  | 46 => ⟨S16384x2, .i32⟩
  | 47 => ⟨S16384x2, .i32⟩
  | 48 => ⟨S_, .i32⟩
  | 49 => ⟨S16384x2, .i32⟩
  | 50 => ⟨S16384x2, .i32⟩
  | 51 => ⟨S16384x2, .i32⟩
  | 52 => ⟨S16384x2, .i32⟩
  | 53 => ⟨S16384x2, .i32⟩
  | 54 => ⟨S16384x2, .i32⟩
  | 55 => ⟨S16384x2, .i32⟩
  | 56 => ⟨S16384x2, .i32⟩
  | 57 => ⟨S_, .i32⟩
  | 58 => ⟨S16384x2, .i32⟩
  | 59 => ⟨S16384x2, .i32⟩
  | 60 => ⟨S16384x2, .i32⟩
  | 61 => ⟨S_, .i32⟩
  | 62 => ⟨S16384x2, .i32⟩
  | 63 => ⟨S16384x2, .i32⟩
  | 64 => ⟨S_, .i32⟩
  | 65 => ⟨S16384x2, .i32⟩
  | 66 => ⟨S16384x2, .i32⟩
  | 67 => ⟨S16384x2, .i32⟩
  | 68 => ⟨S16384x2, .i32⟩
  | 69 => ⟨S16384x2, .i32⟩
  | 70 => ⟨S_, .i32⟩
  | 71 => ⟨S16384x2, .i32⟩
  | 72 => ⟨S16384x2, .i32⟩
  | 73 => ⟨S_, .i32⟩
  | 74 => ⟨S16384x2, .i32⟩
  | 75 => ⟨S16384x2, .i32⟩
  | 76 => ⟨S16384x2, .i32⟩
  | 77 => ⟨S16384x2, .i32⟩
  | 78 => ⟨S16384x2, .i32⟩
  | 79 => ⟨S_, .i32⟩
  | 80 => ⟨S16384x2, .i32⟩
  | 81 => ⟨S16384x2, .i32⟩
  | 82 => ⟨S_, .i32⟩
  | 83 => ⟨S16384x2, .i32⟩
  | 84 => ⟨S16384x2, .i32⟩
  | 85 => ⟨S16384x2, .i32⟩
  | 86 => ⟨S16384x2, .i32⟩
  | 87 => ⟨S16384x2, .i32⟩
  | 88 => ⟨S_, .i32⟩
  | 89 => ⟨S16384x2, .i32⟩
  | 90 => ⟨S16384x2, .i32⟩
  | 91 => ⟨S_, .i32⟩
  | 92 => ⟨S16384x2, .i32⟩
  | 93 => ⟨S16384x2, .i32⟩
  | 94 => ⟨S16384x2, .i32⟩
  | 95 => ⟨S16384x2, .i32⟩
  | 96 => ⟨S16384x2, .i32⟩
  | 97 => ⟨S16384x2, .i32⟩
  | 98 => ⟨S16384x2, .i32⟩
  | 99 => ⟨S16384x2, .i32⟩
  | 100 => ⟨S_, .i32⟩
  | 101 => ⟨S16384x2, .i32⟩
  | 102 => ⟨S16384x2, .i32⟩
  | 103 => ⟨S16384x2, .i32⟩
  | 104 => ⟨S_, .i32⟩
  | 105 => ⟨S16384x2, .i32⟩
  | 106 => ⟨S16384x2, .i32⟩
  | 107 => ⟨S_, .i32⟩
  | 108 => ⟨S16384x2, .i32⟩
  | 109 => ⟨S16384x2, .i32⟩
  | 110 => ⟨S16384x2, .i32⟩
  | 111 => ⟨S16384x2, .i32⟩
  | 112 => ⟨S16384x2, .i32⟩
  | 113 => ⟨S_, .i32⟩
  | 114 => ⟨S16384x2, .i32⟩
  | 115 => ⟨S16384x2, .i32⟩
  | 116 => ⟨S_, .i32⟩
  | 117 => ⟨S16384x2, .i32⟩
  | 118 => ⟨S16384x2, .i32⟩
  | 119 => ⟨S16384x2, .i32⟩
  | 120 => ⟨S16384x2, .i32⟩
  | 121 => ⟨S16384x2, .i32⟩
  | 122 => ⟨S_, .i32⟩
  | 123 => ⟨S16384x2, .i32⟩
  | 124 => ⟨S16384x2, .i32⟩
  | 125 => ⟨S_, .i32⟩
  | 126 => ⟨S16384x2, .i32⟩
  | 127 => ⟨S16384x2, .i32⟩
  | _ => ⟨S16384x1, .f32⟩

abbrev hbmTy0_2 (i : Nat) : BufTy := match i % 128 with
  | 0 => ⟨S16384x2, .i32⟩
  | 1 => ⟨S16384x2, .i32⟩
  | 2 => ⟨S16384x2, .i32⟩
  | 3 => ⟨S_, .i32⟩
  | 4 => ⟨S16384x2, .i32⟩
  | 5 => ⟨S16384x2, .i32⟩
  | 6 => ⟨S_, .i32⟩
  | 7 => ⟨S16384x2, .i32⟩
  | 8 => ⟨S16384x2, .i32⟩
  | 9 => ⟨S16384x2, .i32⟩
  | 10 => ⟨S16384x2, .i32⟩
  | 11 => ⟨S16384x2, .i32⟩
  | 12 => ⟨S16384x2, .i32⟩
  | 13 => ⟨S16384x2, .i32⟩
  | 14 => ⟨S16384x2, .i32⟩
  | 15 => ⟨S_, .i32⟩
  | 16 => ⟨S16384x2, .i32⟩
  | 17 => ⟨S16384x2, .i32⟩
  | 18 => ⟨S16384x2, .i32⟩
  | 19 => ⟨S_, .i32⟩
  | 20 => ⟨S16384x2, .i32⟩
  | 21 => ⟨S16384x2, .i32⟩
  | 22 => ⟨S_, .i32⟩
  | 23 => ⟨S16384x2, .i32⟩
  | 24 => ⟨S16384x2, .i32⟩
  | 25 => ⟨S16384x2, .f32⟩
  | 26 => ⟨S_, .f32⟩
  | 27 => ⟨S16384x2, .f32⟩
  | 28 => ⟨S16384x2, .f32⟩
  | 29 => ⟨S1x1, .f32⟩
  | 30 => ⟨S16384x2, .f32⟩
  | 31 => ⟨S16384x2, .f32⟩
  | 32 => ⟨S16384x2, .f32⟩
  | 33 => ⟨S16384x2, .f32⟩
  | 34 => ⟨S16384x2, .f32⟩
  | 35 => ⟨S16384x2, .f32⟩
  | 36 => ⟨S16384x2, .f32⟩
  | 37 => ⟨S16384x2, .f32⟩
  | 38 => ⟨S16384x2, .f32⟩
  | 39 => ⟨S16384x2, .f32⟩
  | 40 => ⟨S16384x2, .f32⟩
  | 41 => ⟨S16384x2, .i32⟩
  | 42 => ⟨S_, .f32⟩
  | 43 => ⟨S_, .i32⟩
  | 44 => ⟨S16384, .f32⟩
  | 45 => ⟨S16384, .i32⟩
  | 46 => ⟨S16384x1, .i32⟩
  | 47 => ⟨S_, .i32⟩
  | 48 => ⟨S16384x1, .i32⟩
  | 49 => ⟨S16384x1, .i1⟩
  | 50 => ⟨S_, .i32⟩
  | 51 => ⟨S16384x1, .i32⟩
  | 52 => ⟨S16384x1, .i32⟩
  | 53 => ⟨S16384x1, .i32⟩
  | 54 => ⟨S16384x1x1, .i32⟩
  | 55 => ⟨S1, .i32⟩
  | 56 => ⟨S_, .i32⟩
  | 57 => ⟨S16384x1x1, .i32⟩
  | 58 => ⟨S16384x1x1, .i1⟩
  | 59 => ⟨S1x1x1, .i32⟩
  | 60 => ⟨S16384x1x1, .i32⟩
  | 61 => ⟨S16384x1x1, .i1⟩
  | 62 => ⟨S16384x1x1, .i1⟩
  | 63 => ⟨S_, .i1⟩
  | 64 => ⟨S16384x1, .i1⟩
  | 65 => ⟨S16384x1, .f32⟩
  | 66 => ⟨S_, .f32⟩
  | 67 => ⟨S16384x1, .f32⟩
  | 68 => ⟨S16384x1, .f32⟩
  | _ => ⟨S16384x1, .f32⟩

abbrev hbmTy (i : Nat) : BufTy := match i / 128 with
  | 0 => hbmTy0_0 i
  | 1 => hbmTy0_1 i
  | 2 => hbmTy0_2 i
  | _ => ⟨S16384x1, .f32⟩

abbrev bufTy : (tb : Table) → Fin (tcTables nBuf tb) → BufTy
  | .hbm, ⟨i, _⟩ => hbmTy i
  | _, _ => ⟨S16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_cst : Ref sig .tc := ⟨.hbm, 29, rfl⟩
abbrev main_call0_cst_0 : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_c : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_c_0 : Ref sig .tc := ⟨.hbm, 43, rfl⟩
abbrev main_call0_call0_v11 : Ref sig .tc := ⟨.hbm, 44, rfl⟩
abbrev main_call0_call0_v12 : Ref sig .tc := ⟨.hbm, 45, rfl⟩
abbrev main_call0_call0_v13 : Ref sig .tc := ⟨.hbm, 46, rfl⟩
abbrev main_call0_call0_c_1 : Ref sig .tc := ⟨.hbm, 47, rfl⟩
abbrev main_call0_call0_v14 : Ref sig .tc := ⟨.hbm, 48, rfl⟩
abbrev main_call0_call0_v15 : Ref sig .tc := ⟨.hbm, 49, rfl⟩
abbrev main_call0_call0_v16 : Ref sig .tc := ⟨.hbm, 50, rfl⟩
abbrev main_call0_call0_v17 : Ref sig .tc := ⟨.hbm, 51, rfl⟩
abbrev main_call0_call0_call0_v0 : Ref sig .tc := ⟨.hbm, 52, rfl⟩
abbrev main_call0_call0_call0_c : Ref sig .tc := ⟨.hbm, 53, rfl⟩
abbrev main_call0_call0_call0_v1 : Ref sig .tc := ⟨.hbm, 54, rfl⟩
abbrev main_call0_call0_call0_v2 : Ref sig .tc := ⟨.hbm, 55, rfl⟩
abbrev main_call0_call0_call0_v3 : Ref sig .tc := ⟨.hbm, 56, rfl⟩
abbrev main_call0_call0_call0_v4 : Ref sig .tc := ⟨.hbm, 57, rfl⟩
abbrev main_call0_call0_call0_v5 : Ref sig .tc := ⟨.hbm, 58, rfl⟩
abbrev main_call0_call0_call0_v6 : Ref sig .tc := ⟨.hbm, 59, rfl⟩
abbrev main_call0_call0_call0_c_0 : Ref sig .tc := ⟨.hbm, 60, rfl⟩
abbrev main_call0_call0_call0_v7 : Ref sig .tc := ⟨.hbm, 61, rfl⟩
abbrev main_call0_call0_call0_v8 : Ref sig .tc := ⟨.hbm, 62, rfl⟩
abbrev main_call0_call0_call0_c_1 : Ref sig .tc := ⟨.hbm, 63, rfl⟩
abbrev main_call0_call0_call0_v9 : Ref sig .tc := ⟨.hbm, 64, rfl⟩
abbrev main_call0_call0_call0_v10 : Ref sig .tc := ⟨.hbm, 65, rfl⟩
abbrev main_call0_call0_call0_v11 : Ref sig .tc := ⟨.hbm, 66, rfl⟩
abbrev main_call0_call0_call0_v12 : Ref sig .tc := ⟨.hbm, 67, rfl⟩
abbrev main_call0_call0_call0_v13 : Ref sig .tc := ⟨.hbm, 68, rfl⟩
abbrev main_call0_call0_call0_c_2 : Ref sig .tc := ⟨.hbm, 69, rfl⟩
abbrev main_call0_call0_call0_v14 : Ref sig .tc := ⟨.hbm, 70, rfl⟩
abbrev main_call0_call0_call0_v15 : Ref sig .tc := ⟨.hbm, 71, rfl⟩
abbrev main_call0_call0_call0_c_3 : Ref sig .tc := ⟨.hbm, 72, rfl⟩
abbrev main_call0_call0_call0_v16 : Ref sig .tc := ⟨.hbm, 73, rfl⟩
abbrev main_call0_call0_call0_v17 : Ref sig .tc := ⟨.hbm, 74, rfl⟩
abbrev main_call0_call0_call0_v18 : Ref sig .tc := ⟨.hbm, 75, rfl⟩
abbrev main_call0_call0_call0_v19 : Ref sig .tc := ⟨.hbm, 76, rfl⟩
abbrev main_call0_call0_call0_v20 : Ref sig .tc := ⟨.hbm, 77, rfl⟩
abbrev main_call0_call0_call0_c_4 : Ref sig .tc := ⟨.hbm, 78, rfl⟩
abbrev main_call0_call0_call0_v21 : Ref sig .tc := ⟨.hbm, 79, rfl⟩
abbrev main_call0_call0_call0_v22 : Ref sig .tc := ⟨.hbm, 80, rfl⟩
abbrev main_call0_call0_call0_c_5 : Ref sig .tc := ⟨.hbm, 81, rfl⟩
abbrev main_call0_call0_call0_v23 : Ref sig .tc := ⟨.hbm, 82, rfl⟩
abbrev main_call0_call0_call0_v24 : Ref sig .tc := ⟨.hbm, 83, rfl⟩
abbrev main_call0_call0_call0_v25 : Ref sig .tc := ⟨.hbm, 84, rfl⟩
abbrev main_call0_call0_call0_v26 : Ref sig .tc := ⟨.hbm, 85, rfl⟩
abbrev main_call0_call0_call0_v27 : Ref sig .tc := ⟨.hbm, 86, rfl⟩
abbrev main_call0_call0_call0_c_6 : Ref sig .tc := ⟨.hbm, 87, rfl⟩
abbrev main_call0_call0_call0_v28 : Ref sig .tc := ⟨.hbm, 88, rfl⟩
abbrev main_call0_call0_call0_v29 : Ref sig .tc := ⟨.hbm, 89, rfl⟩
abbrev main_call0_call0_call0_c_7 : Ref sig .tc := ⟨.hbm, 90, rfl⟩
abbrev main_call0_call0_call0_v30 : Ref sig .tc := ⟨.hbm, 91, rfl⟩
abbrev main_call0_call0_call0_v31 : Ref sig .tc := ⟨.hbm, 92, rfl⟩
abbrev main_call0_call0_call0_v32 : Ref sig .tc := ⟨.hbm, 93, rfl⟩
abbrev main_call0_call0_call0_v33 : Ref sig .tc := ⟨.hbm, 94, rfl⟩
abbrev main_call0_call0_call0_v34 : Ref sig .tc := ⟨.hbm, 95, rfl⟩
abbrev main_call0_call0_call0_v35 : Ref sig .tc := ⟨.hbm, 96, rfl⟩
abbrev main_call0_call0_call0_v36 : Ref sig .tc := ⟨.hbm, 97, rfl⟩
abbrev main_call0_call0_call0_v37 : Ref sig .tc := ⟨.hbm, 98, rfl⟩
abbrev main_call0_call0_call0_c_8 : Ref sig .tc := ⟨.hbm, 99, rfl⟩
abbrev main_call0_call0_call0_v38 : Ref sig .tc := ⟨.hbm, 100, rfl⟩
abbrev main_call0_call0_call0_v39 : Ref sig .tc := ⟨.hbm, 101, rfl⟩
abbrev main_call0_call0_call0_v40 : Ref sig .tc := ⟨.hbm, 102, rfl⟩
abbrev main_call0_call0_call0_c_9 : Ref sig .tc := ⟨.hbm, 103, rfl⟩
abbrev main_call0_call0_call0_v41 : Ref sig .tc := ⟨.hbm, 104, rfl⟩
abbrev main_call0_call0_call0_v42 : Ref sig .tc := ⟨.hbm, 105, rfl⟩
abbrev main_call0_call0_call0_c_10 : Ref sig .tc := ⟨.hbm, 106, rfl⟩
abbrev main_call0_call0_call0_v43 : Ref sig .tc := ⟨.hbm, 107, rfl⟩
abbrev main_call0_call0_call0_v44 : Ref sig .tc := ⟨.hbm, 108, rfl⟩
abbrev main_call0_call0_call0_v45 : Ref sig .tc := ⟨.hbm, 109, rfl⟩
abbrev main_call0_call0_call0_v46 : Ref sig .tc := ⟨.hbm, 110, rfl⟩
abbrev main_call0_call0_call0_v47 : Ref sig .tc := ⟨.hbm, 111, rfl⟩
abbrev main_call0_call0_call0_c_11 : Ref sig .tc := ⟨.hbm, 112, rfl⟩
abbrev main_call0_call0_call0_v48 : Ref sig .tc := ⟨.hbm, 113, rfl⟩
abbrev main_call0_call0_call0_v49 : Ref sig .tc := ⟨.hbm, 114, rfl⟩
abbrev main_call0_call0_call0_c_12 : Ref sig .tc := ⟨.hbm, 115, rfl⟩
abbrev main_call0_call0_call0_v50 : Ref sig .tc := ⟨.hbm, 116, rfl⟩
abbrev main_call0_call0_call0_v51 : Ref sig .tc := ⟨.hbm, 117, rfl⟩
abbrev main_call0_call0_call0_v52 : Ref sig .tc := ⟨.hbm, 118, rfl⟩
abbrev main_call0_call0_call0_v53 : Ref sig .tc := ⟨.hbm, 119, rfl⟩
abbrev main_call0_call0_call0_v54 : Ref sig .tc := ⟨.hbm, 120, rfl⟩
abbrev main_call0_call0_call0_c_13 : Ref sig .tc := ⟨.hbm, 121, rfl⟩
abbrev main_call0_call0_call0_v55 : Ref sig .tc := ⟨.hbm, 122, rfl⟩
abbrev main_call0_call0_call0_v56 : Ref sig .tc := ⟨.hbm, 123, rfl⟩
abbrev main_call0_call0_call0_c_14 : Ref sig .tc := ⟨.hbm, 124, rfl⟩
abbrev main_call0_call0_call0_v57 : Ref sig .tc := ⟨.hbm, 125, rfl⟩
abbrev main_call0_call0_call0_v58 : Ref sig .tc := ⟨.hbm, 126, rfl⟩
abbrev main_call0_call0_call0_v59 : Ref sig .tc := ⟨.hbm, 127, rfl⟩
abbrev main_call0_call0_call0_v60 : Ref sig .tc := ⟨.hbm, 128, rfl⟩
abbrev main_call0_call0_call0_v61 : Ref sig .tc := ⟨.hbm, 129, rfl⟩
abbrev main_call0_call0_call0_c_15 : Ref sig .tc := ⟨.hbm, 130, rfl⟩
abbrev main_call0_call0_call0_v62 : Ref sig .tc := ⟨.hbm, 131, rfl⟩
abbrev main_call0_call0_call0_v63 : Ref sig .tc := ⟨.hbm, 132, rfl⟩
abbrev main_call0_call0_call0_c_16 : Ref sig .tc := ⟨.hbm, 133, rfl⟩
abbrev main_call0_call0_call0_v64 : Ref sig .tc := ⟨.hbm, 134, rfl⟩
abbrev main_call0_call0_call0_v65 : Ref sig .tc := ⟨.hbm, 135, rfl⟩
abbrev main_call0_call0_call0_v66 : Ref sig .tc := ⟨.hbm, 136, rfl⟩
abbrev main_call0_call0_call0_v67 : Ref sig .tc := ⟨.hbm, 137, rfl⟩
abbrev main_call0_call0_call0_v68 : Ref sig .tc := ⟨.hbm, 138, rfl⟩
abbrev main_call0_call0_call0_v69 : Ref sig .tc := ⟨.hbm, 139, rfl⟩
abbrev main_call0_call0_call0_v70 : Ref sig .tc := ⟨.hbm, 140, rfl⟩
abbrev main_call0_call0_call0_v71 : Ref sig .tc := ⟨.hbm, 141, rfl⟩
abbrev main_call0_call0_call0_c_17 : Ref sig .tc := ⟨.hbm, 142, rfl⟩
abbrev main_call0_call0_call0_v72 : Ref sig .tc := ⟨.hbm, 143, rfl⟩
abbrev main_call0_call0_call0_v73 : Ref sig .tc := ⟨.hbm, 144, rfl⟩
abbrev main_call0_call0_call0_v74 : Ref sig .tc := ⟨.hbm, 145, rfl⟩
abbrev main_call0_call0_call0_c_18 : Ref sig .tc := ⟨.hbm, 146, rfl⟩
abbrev main_call0_call0_call0_v75 : Ref sig .tc := ⟨.hbm, 147, rfl⟩
abbrev main_call0_call0_call0_v76 : Ref sig .tc := ⟨.hbm, 148, rfl⟩
abbrev main_call0_call0_call0_c_19 : Ref sig .tc := ⟨.hbm, 149, rfl⟩
abbrev main_call0_call0_call0_v77 : Ref sig .tc := ⟨.hbm, 150, rfl⟩
abbrev main_call0_call0_call0_v78 : Ref sig .tc := ⟨.hbm, 151, rfl⟩
abbrev main_call0_call0_call0_v79 : Ref sig .tc := ⟨.hbm, 152, rfl⟩
abbrev main_call0_call0_call0_v80 : Ref sig .tc := ⟨.hbm, 153, rfl⟩
abbrev main_call0_call0_call0_v81 : Ref sig .tc := ⟨.hbm, 154, rfl⟩
abbrev main_call0_call0_call0_c_20 : Ref sig .tc := ⟨.hbm, 155, rfl⟩
abbrev main_call0_call0_call0_v82 : Ref sig .tc := ⟨.hbm, 156, rfl⟩
abbrev main_call0_call0_call0_v83 : Ref sig .tc := ⟨.hbm, 157, rfl⟩
abbrev main_call0_call0_call0_c_21 : Ref sig .tc := ⟨.hbm, 158, rfl⟩
abbrev main_call0_call0_call0_v84 : Ref sig .tc := ⟨.hbm, 159, rfl⟩
abbrev main_call0_call0_call0_v85 : Ref sig .tc := ⟨.hbm, 160, rfl⟩
abbrev main_call0_call0_call0_v86 : Ref sig .tc := ⟨.hbm, 161, rfl⟩
abbrev main_call0_call0_call0_v87 : Ref sig .tc := ⟨.hbm, 162, rfl⟩
abbrev main_call0_call0_call0_v88 : Ref sig .tc := ⟨.hbm, 163, rfl⟩
abbrev main_call0_call0_call0_c_22 : Ref sig .tc := ⟨.hbm, 164, rfl⟩
abbrev main_call0_call0_call0_v89 : Ref sig .tc := ⟨.hbm, 165, rfl⟩
abbrev main_call0_call0_call0_v90 : Ref sig .tc := ⟨.hbm, 166, rfl⟩
abbrev main_call0_call0_call0_c_23 : Ref sig .tc := ⟨.hbm, 167, rfl⟩
abbrev main_call0_call0_call0_v91 : Ref sig .tc := ⟨.hbm, 168, rfl⟩
abbrev main_call0_call0_call0_v92 : Ref sig .tc := ⟨.hbm, 169, rfl⟩
abbrev main_call0_call0_call0_v93 : Ref sig .tc := ⟨.hbm, 170, rfl⟩
abbrev main_call0_call0_call0_v94 : Ref sig .tc := ⟨.hbm, 171, rfl⟩
abbrev main_call0_call0_call0_v95 : Ref sig .tc := ⟨.hbm, 172, rfl⟩
abbrev main_call0_call0_call0_c_24 : Ref sig .tc := ⟨.hbm, 173, rfl⟩
abbrev main_call0_call0_call0_v96 : Ref sig .tc := ⟨.hbm, 174, rfl⟩
abbrev main_call0_call0_call0_v97 : Ref sig .tc := ⟨.hbm, 175, rfl⟩
abbrev main_call0_call0_call0_c_25 : Ref sig .tc := ⟨.hbm, 176, rfl⟩
abbrev main_call0_call0_call0_v98 : Ref sig .tc := ⟨.hbm, 177, rfl⟩
abbrev main_call0_call0_call0_v99 : Ref sig .tc := ⟨.hbm, 178, rfl⟩
abbrev main_call0_call0_call0_v100 : Ref sig .tc := ⟨.hbm, 179, rfl⟩
abbrev main_call0_call0_call0_v101 : Ref sig .tc := ⟨.hbm, 180, rfl⟩
abbrev main_call0_call0_call0_v102 : Ref sig .tc := ⟨.hbm, 181, rfl⟩
abbrev main_call0_call0_call0_v103 : Ref sig .tc := ⟨.hbm, 182, rfl⟩
abbrev main_call0_call0_call0_v104 : Ref sig .tc := ⟨.hbm, 183, rfl⟩
abbrev main_call0_call0_call0_v105 : Ref sig .tc := ⟨.hbm, 184, rfl⟩
abbrev main_call0_call0_call0_c_26 : Ref sig .tc := ⟨.hbm, 185, rfl⟩
abbrev main_call0_call0_call0_v106 : Ref sig .tc := ⟨.hbm, 186, rfl⟩
abbrev main_call0_call0_call0_v107 : Ref sig .tc := ⟨.hbm, 187, rfl⟩
abbrev main_call0_call0_call0_v108 : Ref sig .tc := ⟨.hbm, 188, rfl⟩
abbrev main_call0_call0_call0_c_27 : Ref sig .tc := ⟨.hbm, 189, rfl⟩
abbrev main_call0_call0_call0_v109 : Ref sig .tc := ⟨.hbm, 190, rfl⟩
abbrev main_call0_call0_call0_v110 : Ref sig .tc := ⟨.hbm, 191, rfl⟩
abbrev main_call0_call0_call0_c_28 : Ref sig .tc := ⟨.hbm, 192, rfl⟩
abbrev main_call0_call0_call0_v111 : Ref sig .tc := ⟨.hbm, 193, rfl⟩
abbrev main_call0_call0_call0_v112 : Ref sig .tc := ⟨.hbm, 194, rfl⟩
abbrev main_call0_call0_call0_v113 : Ref sig .tc := ⟨.hbm, 195, rfl⟩
abbrev main_call0_call0_call0_v114 : Ref sig .tc := ⟨.hbm, 196, rfl⟩
abbrev main_call0_call0_call0_v115 : Ref sig .tc := ⟨.hbm, 197, rfl⟩
abbrev main_call0_call0_call0_c_29 : Ref sig .tc := ⟨.hbm, 198, rfl⟩
abbrev main_call0_call0_call0_v116 : Ref sig .tc := ⟨.hbm, 199, rfl⟩
abbrev main_call0_call0_call0_v117 : Ref sig .tc := ⟨.hbm, 200, rfl⟩
abbrev main_call0_call0_call0_c_30 : Ref sig .tc := ⟨.hbm, 201, rfl⟩
abbrev main_call0_call0_call0_v118 : Ref sig .tc := ⟨.hbm, 202, rfl⟩
abbrev main_call0_call0_call0_v119 : Ref sig .tc := ⟨.hbm, 203, rfl⟩
abbrev main_call0_call0_call0_v120 : Ref sig .tc := ⟨.hbm, 204, rfl⟩
abbrev main_call0_call0_call0_v121 : Ref sig .tc := ⟨.hbm, 205, rfl⟩
abbrev main_call0_call0_call0_v122 : Ref sig .tc := ⟨.hbm, 206, rfl⟩
abbrev main_call0_call0_call0_c_31 : Ref sig .tc := ⟨.hbm, 207, rfl⟩
abbrev main_call0_call0_call0_v123 : Ref sig .tc := ⟨.hbm, 208, rfl⟩
abbrev main_call0_call0_call0_v124 : Ref sig .tc := ⟨.hbm, 209, rfl⟩
abbrev main_call0_call0_call0_c_32 : Ref sig .tc := ⟨.hbm, 210, rfl⟩
abbrev main_call0_call0_call0_v125 : Ref sig .tc := ⟨.hbm, 211, rfl⟩
abbrev main_call0_call0_call0_v126 : Ref sig .tc := ⟨.hbm, 212, rfl⟩
abbrev main_call0_call0_call0_v127 : Ref sig .tc := ⟨.hbm, 213, rfl⟩
abbrev main_call0_call0_call0_v128 : Ref sig .tc := ⟨.hbm, 214, rfl⟩
abbrev main_call0_call0_call0_v129 : Ref sig .tc := ⟨.hbm, 215, rfl⟩
abbrev main_call0_call0_call0_c_33 : Ref sig .tc := ⟨.hbm, 216, rfl⟩
abbrev main_call0_call0_call0_v130 : Ref sig .tc := ⟨.hbm, 217, rfl⟩
abbrev main_call0_call0_call0_v131 : Ref sig .tc := ⟨.hbm, 218, rfl⟩
abbrev main_call0_call0_call0_c_34 : Ref sig .tc := ⟨.hbm, 219, rfl⟩
abbrev main_call0_call0_call0_v132 : Ref sig .tc := ⟨.hbm, 220, rfl⟩
abbrev main_call0_call0_call0_v133 : Ref sig .tc := ⟨.hbm, 221, rfl⟩
abbrev main_call0_call0_call0_v134 : Ref sig .tc := ⟨.hbm, 222, rfl⟩
abbrev main_call0_call0_call0_v135 : Ref sig .tc := ⟨.hbm, 223, rfl⟩
abbrev main_call0_call0_call0_v136 : Ref sig .tc := ⟨.hbm, 224, rfl⟩
abbrev main_call0_call0_call0_v137 : Ref sig .tc := ⟨.hbm, 225, rfl⟩
abbrev main_call0_call0_call0_v138 : Ref sig .tc := ⟨.hbm, 226, rfl⟩
abbrev main_call0_call0_call0_v139 : Ref sig .tc := ⟨.hbm, 227, rfl⟩
abbrev main_call0_call0_call0_c_35 : Ref sig .tc := ⟨.hbm, 228, rfl⟩
abbrev main_call0_call0_call0_v140 : Ref sig .tc := ⟨.hbm, 229, rfl⟩
abbrev main_call0_call0_call0_v141 : Ref sig .tc := ⟨.hbm, 230, rfl⟩
abbrev main_call0_call0_call0_v142 : Ref sig .tc := ⟨.hbm, 231, rfl⟩
abbrev main_call0_call0_call0_c_36 : Ref sig .tc := ⟨.hbm, 232, rfl⟩
abbrev main_call0_call0_call0_v143 : Ref sig .tc := ⟨.hbm, 233, rfl⟩
abbrev main_call0_call0_call0_v144 : Ref sig .tc := ⟨.hbm, 234, rfl⟩
abbrev main_call0_call0_call0_c_37 : Ref sig .tc := ⟨.hbm, 235, rfl⟩
abbrev main_call0_call0_call0_v145 : Ref sig .tc := ⟨.hbm, 236, rfl⟩
abbrev main_call0_call0_call0_v146 : Ref sig .tc := ⟨.hbm, 237, rfl⟩
abbrev main_call0_call0_call0_v147 : Ref sig .tc := ⟨.hbm, 238, rfl⟩
abbrev main_call0_call0_call0_v148 : Ref sig .tc := ⟨.hbm, 239, rfl⟩
abbrev main_call0_call0_call0_v149 : Ref sig .tc := ⟨.hbm, 240, rfl⟩
abbrev main_call0_call0_call0_c_38 : Ref sig .tc := ⟨.hbm, 241, rfl⟩
abbrev main_call0_call0_call0_v150 : Ref sig .tc := ⟨.hbm, 242, rfl⟩
abbrev main_call0_call0_call0_v151 : Ref sig .tc := ⟨.hbm, 243, rfl⟩
abbrev main_call0_call0_call0_c_39 : Ref sig .tc := ⟨.hbm, 244, rfl⟩
abbrev main_call0_call0_call0_v152 : Ref sig .tc := ⟨.hbm, 245, rfl⟩
abbrev main_call0_call0_call0_v153 : Ref sig .tc := ⟨.hbm, 246, rfl⟩
abbrev main_call0_call0_call0_v154 : Ref sig .tc := ⟨.hbm, 247, rfl⟩
abbrev main_call0_call0_call0_v155 : Ref sig .tc := ⟨.hbm, 248, rfl⟩
abbrev main_call0_call0_call0_v156 : Ref sig .tc := ⟨.hbm, 249, rfl⟩
abbrev main_call0_call0_call0_c_40 : Ref sig .tc := ⟨.hbm, 250, rfl⟩
abbrev main_call0_call0_call0_v157 : Ref sig .tc := ⟨.hbm, 251, rfl⟩
abbrev main_call0_call0_call0_v158 : Ref sig .tc := ⟨.hbm, 252, rfl⟩
abbrev main_call0_call0_call0_c_41 : Ref sig .tc := ⟨.hbm, 253, rfl⟩
abbrev main_call0_call0_call0_v159 : Ref sig .tc := ⟨.hbm, 254, rfl⟩
abbrev main_call0_call0_call0_v160 : Ref sig .tc := ⟨.hbm, 255, rfl⟩
abbrev main_call0_call0_call0_v161 : Ref sig .tc := ⟨.hbm, 256, rfl⟩
abbrev main_call0_call0_call0_v162 : Ref sig .tc := ⟨.hbm, 257, rfl⟩
abbrev main_call0_call0_call0_v163 : Ref sig .tc := ⟨.hbm, 258, rfl⟩
abbrev main_call0_call0_call0_c_42 : Ref sig .tc := ⟨.hbm, 259, rfl⟩
abbrev main_call0_call0_call0_v164 : Ref sig .tc := ⟨.hbm, 260, rfl⟩
abbrev main_call0_call0_call0_v165 : Ref sig .tc := ⟨.hbm, 261, rfl⟩
abbrev main_call0_call0_call0_c_43 : Ref sig .tc := ⟨.hbm, 262, rfl⟩
abbrev main_call0_call0_call0_v166 : Ref sig .tc := ⟨.hbm, 263, rfl⟩
abbrev main_call0_call0_call0_v167 : Ref sig .tc := ⟨.hbm, 264, rfl⟩
abbrev main_call0_call0_call0_v168 : Ref sig .tc := ⟨.hbm, 265, rfl⟩
abbrev main_call0_call0_call0_v169 : Ref sig .tc := ⟨.hbm, 266, rfl⟩
abbrev main_call0_call0_call0_v170 : Ref sig .tc := ⟨.hbm, 267, rfl⟩
abbrev main_call0_call0_v18_0 : Ref sig .tc := ⟨.hbm, 268, rfl⟩
abbrev main_call0_call0_call0_v172 : Ref sig .tc := ⟨.hbm, 269, rfl⟩
abbrev main_call0_call0_call0_v173 : Ref sig .tc := ⟨.hbm, 270, rfl⟩
abbrev main_call0_call0_call0_c_44 : Ref sig .tc := ⟨.hbm, 271, rfl⟩
abbrev main_call0_call0_call0_v174 : Ref sig .tc := ⟨.hbm, 272, rfl⟩
abbrev main_call0_call0_v18_1 : Ref sig .tc := ⟨.hbm, 273, rfl⟩
abbrev main_call0_call0_v19 : Ref sig .tc := ⟨.hbm, 274, rfl⟩
abbrev main_call0_call0_c_2 : Ref sig .tc := ⟨.hbm, 275, rfl⟩
abbrev main_call0_call0_v20 : Ref sig .tc := ⟨.hbm, 276, rfl⟩
abbrev main_call0_call0_v21 : Ref sig .tc := ⟨.hbm, 277, rfl⟩
abbrev main_call0_call0_c_3 : Ref sig .tc := ⟨.hbm, 278, rfl⟩
abbrev main_call0_call0_v22 : Ref sig .tc := ⟨.hbm, 279, rfl⟩
abbrev main_call0_call0_v23 : Ref sig .tc := ⟨.hbm, 280, rfl⟩
abbrev main_call0_call0_v24 : Ref sig .tc := ⟨.hbm, 281, rfl⟩
abbrev main_call0_call0_cst : Ref sig .tc := ⟨.hbm, 282, rfl⟩
abbrev main_call0_call0_v25 : Ref sig .tc := ⟨.hbm, 283, rfl⟩
abbrev main_call0_call0_v26 : Ref sig .tc := ⟨.hbm, 284, rfl⟩
abbrev main_call0_call0_v27 : Ref sig .tc := ⟨.hbm, 285, rfl⟩
abbrev main_call0_call0_v28 : Ref sig .tc := ⟨.hbm, 286, rfl⟩
abbrev main_call0_call0_v29 : Ref sig .tc := ⟨.hbm, 287, rfl⟩
abbrev main_call0_call0_v30 : Ref sig .tc := ⟨.hbm, 288, rfl⟩
abbrev main_call0_call0_v31 : Ref sig .tc := ⟨.hbm, 289, rfl⟩
abbrev main_call0_call0_v32 : Ref sig .tc := ⟨.hbm, 290, rfl⟩
abbrev main_call0_v0 : Ref sig .tc := ⟨.hbm, 291, rfl⟩
abbrev main_call0_v1 : Ref sig .tc := ⟨.hbm, 292, rfl⟩
abbrev main_call0_v2 : Ref sig .tc := ⟨.hbm, 293, rfl⟩
abbrev main_call0_v3 : Ref sig .tc := ⟨.hbm, 294, rfl⟩
abbrev main_v21 : Ref sig .tc := ⟨.hbm, 295, rfl⟩
abbrev main_v22 : Ref sig .tc := ⟨.hbm, 296, rfl⟩
abbrev main_call1_v0 : Ref sig .tc := ⟨.hbm, 297, rfl⟩
abbrev main_call1_cst : Ref sig .tc := ⟨.hbm, 298, rfl⟩
abbrev main_call1_c : Ref sig .tc := ⟨.hbm, 299, rfl⟩
abbrev main_call1_v1_0 : Ref sig .tc := ⟨.hbm, 300, rfl⟩
abbrev main_v23 : Ref sig .tc := ⟨.hbm, 301, rfl⟩
abbrev main_v24 : Ref sig .tc := ⟨.hbm, 302, rfl⟩
abbrev main_call2_c : Ref sig .tc := ⟨.hbm, 303, rfl⟩
abbrev main_call2_v0 : Ref sig .tc := ⟨.hbm, 304, rfl⟩
abbrev main_call2_v1 : Ref sig .tc := ⟨.hbm, 305, rfl⟩
abbrev main_call2_c_0 : Ref sig .tc := ⟨.hbm, 306, rfl⟩
abbrev main_call2_v2 : Ref sig .tc := ⟨.hbm, 307, rfl⟩
abbrev main_call2_v3 : Ref sig .tc := ⟨.hbm, 308, rfl⟩
abbrev main_call2_v4 : Ref sig .tc := ⟨.hbm, 309, rfl⟩
abbrev main_call2_v5 : Ref sig .tc := ⟨.hbm, 310, rfl⟩
abbrev main_call2_c_1 : Ref sig .tc := ⟨.hbm, 311, rfl⟩
abbrev main_call2_c_2 : Ref sig .tc := ⟨.hbm, 312, rfl⟩
abbrev main_call2_v6 : Ref sig .tc := ⟨.hbm, 313, rfl⟩
abbrev main_call2_v7 : Ref sig .tc := ⟨.hbm, 314, rfl⟩
abbrev main_call2_v8 : Ref sig .tc := ⟨.hbm, 315, rfl⟩
abbrev main_call2_v9 : Ref sig .tc := ⟨.hbm, 316, rfl⟩
abbrev main_call2_v10 : Ref sig .tc := ⟨.hbm, 317, rfl⟩
abbrev main_call2_v11 : Ref sig .tc := ⟨.hbm, 318, rfl⟩
abbrev main_call2_c_3 : Ref sig .tc := ⟨.hbm, 319, rfl⟩
abbrev main_call2_v12 : Ref sig .tc := ⟨.hbm, 320, rfl⟩
abbrev main_call2_v13 : Ref sig .tc := ⟨.hbm, 321, rfl⟩
abbrev main_call2_cst : Ref sig .tc := ⟨.hbm, 322, rfl⟩
abbrev main_call2_v14 : Ref sig .tc := ⟨.hbm, 323, rfl⟩
abbrev main_v25 : Ref sig .tc := ⟨.hbm, 324, rfl⟩

abbrev nD : Nat := 1
abbrev τ : Topo := Topo.v7x

variable {F : FTy → Type} [FloatOps F]
-- ==== Proof.Threefry.lean ====
/- The random numbers of the certificate, one word at a time: the Threefry-2x32 generator at the key (0, 42), the
   uniform number made of a word and the Gumbel number made of that. No program is mentioned: the kernel and the
   reference are each shown to compute these functions, element by element. -/
module

public import Idealize.ShloMosaic.PureOps.Ideal

@[expose] public section

namespace Cert.Proof

open Idealize.ShloMosaic

/-- A 32-bit word. -/
abbrev Word := BitVec 32

/-- The word `y` shifted left by `k` and right by `l`, joined: a rotation by `k` when `k + l = 32`. -/
def rot (k l : Nat) (y : Word) : Word := y <<< k ||| y >>> l

/-- One round and the next round's addition. A state is the pair (sum of the two lanes, second lane). -/
def turn (k l : Nat) (p : Word × Word) : Word × Word :=
  (p.1 + (p.1 ^^^ rot k l p.2), p.1 ^^^ rot k l p.2)

/-- The last round of a group and its key injection: `a` is added to the first lane, `b` and then the
    group's number `n` to the second. The result is the pair of lanes. -/
def close (k l : Nat) (a b n : Word) (p : Word × Word) : Word × Word :=
  (p.1 + a, (p.1 ^^^ rot k l p.2) + b + n)

/-- The addition that begins the next group: from the pair of lanes to a state. -/
def opened (p : Word × Word) : Word × Word := (p.1 + p.2, p.2)

/-- Four rounds with the rotations 13, 15, 26, 6, and the injection after them. -/
def groupA (a b n : Word) (p : Word × Word) : Word × Word :=
  close 6 26 a b n (turn 26 6 (turn 15 17 (turn 13 19 p)))

/-- Four rounds with the rotations 17, 29, 16, 24, and the injection after them. -/
def groupB (a b n : Word) (p : Word × Word) : Word × Word :=
  close 24 8 a b n (turn 16 16 (turn 29 3 (turn 17 15 p)))

/-- Threefry-2x32 with the key words `k0`, `k1` and the third key word `k2`, from the counter's two words. -/
def threefry (k0 k1 k2 hi lo : Word) : Word × Word :=
  groupA k2 k0 5#32 (opened (groupB k1 k2 4#32 (opened (groupA k0 k1 3#32
    (opened (groupB k2 k0 2#32 (opened (groupA k1 k2 1#32 (opened (hi + k0, lo + k1))))))))))

/-- The random word of the counter `n`, at the key (0, 42). -/
def randomWord (n : Word) : Word :=
  (threefry 0#32 42#32 466689008#32 0#32 n).1 ^^^ (threefry 0#32 42#32 466689008#32 0#32 n).2

/-- The smallest positive normal number, the low end of the uniform numbers. -/
noncomputable abbrev tiny : EReal := Ideal.ofBits .f32 0x00800000#32

/-- The number one, as both programs write it. -/
noncomputable abbrev one : EReal := Ideal.ofBits .f32 0x3F800000#32

/-- A word's uniform number, in [tiny, 1): its top 23 bits as the fraction of a number in [1, 2), less one,
    stretched to the interval and clamped below. -/
noncomputable def uniform (b : Word) : EReal :=
  max tiny ((Ideal.ofBits .f32 (b >>> 9 ||| 0x3F800000#32) - one) * (one - tiny) + tiny)

/-- A word's Gumbel number: minus the logarithm of minus the logarithm of its uniform number. -/
noncomputable def gumbel (b : Word) : EReal := -Ideal.log (-Ideal.log (uniform b))

end Cert.Proof

end
-- ==== Proof.KernelBits.lean ====
/- The kernel's random words: its two chains of Threefry rounds, read at one position of the block. The kernel runs
   the generator twice, once for each of the two classes; each chain starts from the counter plus the second key word. -/
module

public import proofs.«01_k».proof.Proof.Gen.KernelIdeal.Frame
public import proofs.«01_k».proof.Proof.Threefry

@[expose] public section

noncomputable section

namespace Cert.Proof

open Idealize.ShloMosaic Cert.KernelIdeal Cert.KernelIdeal.Gen

/-! ## The kernel's spelling of the generator -/

/-- The state after the first group, from the counter plus the second key word. -/
def after1 (w : Word) : Word × Word := opened (groupA 42#32 466689009#32 0#32 (w, w))

/-- The state after the second group. -/
def after2 (p : Word × Word) : Word × Word := opened (groupB 466689008#32 2#32 0#32 p)

/-- The state after the third group. -/
def after3 (p : Word × Word) : Word × Word := opened (groupA 0#32 45#32 0#32 p)

/-- The state after the fourth group. -/
def after4 (p : Word × Word) : Word × Word := opened (groupB 42#32 466689012#32 0#32 p)

/-- The word after the fifth group: its two lanes joined by exclusive or. -/
def after5 (p : Word × Word) : Word :=
  (groupA 466689008#32 5#32 0#32 p).1 ^^^ (groupA 466689008#32 5#32 0#32 p).2

/-- The kernel's word, from the counter plus the second key word. -/
def kernelWord (w : Word) : Word := after5 (after4 (after3 (after2 (after1 w))))

/-- One constant added at an injection is the key word and then the group's number. -/
theorem close_split (k l : Nat) (a b n : Word) (p : Word × Word) :
    close k l a (b + n) 0#32 p = close k l a b n p := by
  simp only [close, BitVec.add_zero, BitVec.add_assoc]

/-- The kernel's word is the generator's at the key (0, 42): the kernel drops the first lane, which is zero, and
    adds each injected key word and the group's number as one constant. -/
theorem kernelWord_eq (n : Word) : kernelWord (n + 42#32) = randomWord n := by
  have h1 : after1 (n + 42#32) = opened (groupA 42#32 466689008#32 1#32 (opened (0#32 + 0#32, n + 42#32))) := by
    unfold after1 groupA
    rw [show (466689009#32 : Word) = 466689008#32 + 1#32 from rfl, close_split]
    simp only [opened, BitVec.zero_add]
  have h2 (p) : after2 p = opened (groupB 466689008#32 0#32 2#32 p) := by
    unfold after2 groupB
    rw [show (2#32 : Word) = 0#32 + 2#32 from rfl, close_split]; rfl
  have h3 (p) : after3 p = opened (groupA 0#32 42#32 3#32 p) := by
    unfold after3 groupA
    rw [show (45#32 : Word) = 42#32 + 3#32 from rfl, close_split]
  have h4 (p) : after4 p = opened (groupB 42#32 466689008#32 4#32 p) := by
    unfold after4 groupB
    rw [show (466689012#32 : Word) = 466689008#32 + 4#32 from rfl, close_split]
  have h5 (p) : groupA 466689008#32 5#32 0#32 p = groupA 466689008#32 0#32 5#32 p := by
    unfold groupA
    rw [show (5#32 : Word) = 0#32 + 5#32 from rfl, close_split]; rfl
  unfold kernelWord randomWord threefry after5
  rw [h1, h2, h3, h4, h5]

/-! ## The first class -/

/-- The state after the first group. -/
theorem first1 (i : S128x128.Idx) : (k0_pay18 i, k0_pay17 i) = after1 (k0_pay10 i) := by
  simp only [after1, opened, groupA, close, BitVec.add_zero]
  rfl

/-- The state after the second group. -/
theorem first2 (x y : IVec S128x128 32) (i : S128x128.Idx) :
    (k0_pay27 y x k0_pay19 i, k0_pay26 y x k0_pay19 i) = after2 (x i, y i) := by
  simp only [after2, opened, groupB, close, BitVec.add_zero]
  rfl

/-- The state in the middle of the third group, after two rounds. -/
theorem first3a (x y : IVec S128x128 32) (i : S128x128.Idx) :
    (k0_pay31 y x k0_pay19 i, k0_pay30 y x k0_pay19 i) = turn 15 17 (turn 13 19 (k0_pay27 y x k0_pay19 i, k0_pay26 y x k0_pay19 i)) :=
  rfl

/-- The state after the third group, from its middle. -/
theorem first3b (x y : IVec S128x128 32) (i : S128x128.Idx) :
    (k0_pay36 y x k0_pay32 i, k0_pay35 y x k0_pay32 i) = opened (close 6 26 0#32 45#32 0#32 (turn 26 6 (x i, y i))) := by
  simp only [opened, close, BitVec.add_zero]
  rfl

/-- The lanes after the fourth group. -/
theorem first4 (x y : IVec S128x128 32) (i : S128x128.Idx) :
    (k0_pay43 y x k0_pay32 i, k0_pay44 y x k0_pay32 i)
      = groupB 42#32 466689012#32 0#32 (k0_pay36 y x k0_pay32 i, k0_pay35 y x k0_pay32 i) := by
  simp only [groupB, close, BitVec.add_zero]
  rfl

/-- One round and the next addition on whole blocks, as the kernel writes them. -/
def blockTurn (k l : Word) (p : IVec S128x128 32 × IVec S128x128 32) : IVec S128x128 32 × IVec S128x128 32 :=
  (addi p.1 (xori p.1 (ori (shli p.2 (broadcast S128x128 k)) (shrui p.2 (broadcast S128x128 l)))),
    xori p.1 (ori (shli p.2 (broadcast S128x128 k)) (shrui p.2 (broadcast S128x128 l))))

/-- The last round, the last injection and the word, on whole blocks. -/
def blockWord (p : IVec S128x128 32 × IVec S128x128 32) : IVec S128x128 32 :=
  xori (addi p.1 (broadcast S128x128 466689008#32))
    (addi (xori p.1 (ori (shli p.2 (broadcast S128x128 6#32)) (shrui p.2 (broadcast S128x128 26#32))))
      (broadcast S128x128 5#32))

/-- The number made of a word, before the low end is added, on whole blocks. -/
def blockNumber (w : IVec S128x128 32) : FVec Ideal S128x128 .f32 :=
  mulf (subf (bitcastToFloat .f32 (ori (shrui w (broadcast S128x128 9#32)) (broadcast S128x128 1065353216#32)))
    (broadcast S128x128 (Scalar.ofBits .f32 0x3F800000#32)))
    (broadcast S128x128 (Scalar.subf (Scalar.ofBits .f32 0x3F800000#32) (Scalar.ofBits .f32 0x00800000#32)))

/-- The three rotations at a position. -/
theorem blockTurn_apply (p : IVec S128x128 32 × IVec S128x128 32) (i : S128x128.Idx) :
    ((blockTurn 13#32 19#32 p).1 i, (blockTurn 13#32 19#32 p).2 i) = turn 13 19 (p.1 i, p.2 i)
    ∧ ((blockTurn 15#32 17#32 p).1 i, (blockTurn 15#32 17#32 p).2 i) = turn 15 17 (p.1 i, p.2 i)
    ∧ ((blockTurn 26#32 6#32 p).1 i, (blockTurn 26#32 6#32 p).2 i) = turn 26 6 (p.1 i, p.2 i) := ⟨rfl, rfl, rfl⟩

/-- The word at a position. -/
theorem blockWord_apply (p : IVec S128x128 32 × IVec S128x128 32) (i : S128x128.Idx) :
    blockWord p i = (close 6 26 466689008#32 5#32 0#32 (p.1 i, p.2 i)).1
      ^^^ (close 6 26 466689008#32 5#32 0#32 (p.1 i, p.2 i)).2 := by
  simp only [close, BitVec.add_zero]
  rfl

/-- The number made of a word at a position. -/
theorem blockNumber_apply (w : IVec S128x128 32) (i : S128x128.Idx) :
    blockNumber w i = (Ideal.ofBits .f32 (w i >>> 9 ||| 0x3F800000#32) - one) * (one - tiny) := rfl

/-- The fifth group at a position. -/
theorem fifth (p : IVec S128x128 32 × IVec S128x128 32) (i : S128x128.Idx) :
    blockWord (blockTurn 26#32 6#32 (blockTurn 15#32 17#32 (blockTurn 13#32 19#32 p))) i = after5 (p.1 i, p.2 i) := by
  rw [blockWord_apply, (blockTurn_apply _ i).2.2, (blockTurn_apply _ i).2.1, (blockTurn_apply _ i).1]
  unfold after5 groupA
  with_reducible rfl

/-- The kernel's first random number, before the low end is added: from the lanes after the fourth group. -/
theorem first5 (x y : IVec S128x128 32) (i : S128x128.Idx) :
    k0_pay45 (F := Ideal) x y i
      = (Ideal.ofBits .f32 (after5 (opened (x i, y i)) >>> 9 ||| 0x3F800000#32) - one) * (one - tiny) := by
  have h : k0_pay45 (F := Ideal) x y
      = blockNumber (blockWord (blockTurn 26#32 6#32 (blockTurn 15#32 17#32 (blockTurn 13#32 19#32 (addi x y, y))))) := rfl
  rw [h, blockNumber_apply, fifth, show ((addi x y, y).1 i, (addi x y, y).2 i) = opened (x i, y i) from rfl]

/-- The lanes of the first class after the fourth group. -/
theorem firstLanes (x0 : Vec Ideal S128x128 .f32) (i : S128x128.Idx) :
    (k0_pay43 (k0_pay89 x0) (k0_pay90 x0) (k0_pay91 x0) i, k0_pay44 (k0_pay89 x0) (k0_pay90 x0) (k0_pay91 x0) i)
      = groupB 42#32 466689012#32 0#32 (after3 (after2 (after1 (k0_pay10 i)))) := by
  unfold k0_pay91 k0_pay90 k0_pay89 k0_pay88 k0_pay87 k0_pay86
  rw [first4, first3b, first3a, first2, first1]
  unfold after3 groupA
  with_reducible rfl

/-- What the kernel makes of the first random number. -/
theorem firstTail (v : FVec Ideal S128x128 .f32) (i : S128x128.Idx) :
    k0_pay47 (F := Ideal) v k0_pay46 i = Ideal.ofBits .f32 0#32 - Ideal.log (Ideal.ofBits .f32 0#32
      - Ideal.log (max tiny (v i + tiny))) := rfl

/-- The first class's Gumbel number at a position. -/
theorem first (x0 : Vec Ideal S128x128 .f32) (i : S128x128.Idx) :
    k0_pay92 x0 i = Ideal.ofBits .f32 0#32 - Ideal.log (Ideal.ofBits .f32 0#32
      - Ideal.log (uniform (kernelWord (k0_pay10 i)))) := by
  unfold k0_pay92
  rw [firstTail, first5, firstLanes]
  unfold uniform kernelWord after4
  with_reducible rfl

/-! ## The second class -/

/-- The state after the first group: the counter is one more. -/
theorem second1 (v : IVec S128x128 32) (i : S128x128.Idx) : (k0_pay56 v i, k0_pay55 v i) = after1 (v i + 1#32) := by
  simp only [after1, opened, groupA, close, BitVec.add_zero]
  rfl

/-- The state after the second group. -/
theorem second2 (x v : IVec S128x128 32) (i : S128x128.Idx) :
    (k0_pay65 (k0_pay55 v) x (k0_pay57 v) i, k0_pay64 (k0_pay55 v) x (k0_pay57 v) i) = after2 (x i, k0_pay55 v i) := by
  simp only [after2, opened, groupB, close, BitVec.add_zero]
  rfl

/-- The state in the middle of the third group, after two rounds. -/
theorem second3a (x y z : IVec S128x128 32) (i : S128x128.Idx) :
    (k0_pay69 x y z i, k0_pay68 x y z i) = turn 15 17 (turn 13 19 (k0_pay65 x y z i, k0_pay64 x y z i)) :=
  rfl

/-- The state after the third group, from its middle. -/
theorem second3b (u x y z : IVec S128x128 32) (i : S128x128.Idx) :
    (k0_pay74 (k0_pay68 x y z) u (k0_pay70 x y z) i, k0_pay73 (k0_pay68 x y z) u (k0_pay70 x y z) i)
      = opened (close 6 26 0#32 45#32 0#32 (turn 26 6 (u i, k0_pay68 x y z i))) := by
  simp only [opened, close, BitVec.add_zero]
  rfl

/-- The state after the fourth group. -/
theorem second4 (x y z : IVec S128x128 32) (i : S128x128.Idx) :
    (k0_pay82 x y z i, k0_pay81 x y z i) = after4 (k0_pay74 x y z i, k0_pay73 x y z i) := by
  simp only [after4, opened, groupB, close, BitVec.add_zero]
  rfl

/-- The kernel's second random number, the low end added: from the state after the fourth group. -/
theorem second5 (x y : IVec S128x128 32) (i : S128x128.Idx) :
    k0_pay83 (F := Ideal) y x i
      = (Ideal.ofBits .f32 (after5 (x i, y i) >>> 9 ||| 0x3F800000#32) - one) * (one - tiny) + tiny := by
  have h : k0_pay83 (F := Ideal) y x
      = addf (blockNumber (blockWord (blockTurn 26#32 6#32 (blockTurn 15#32 17#32 (blockTurn 13#32 19#32 (x, y))))))
        (broadcast S128x128 (Scalar.ofBits .f32 0x00800000#32)) := rfl
  rw [h, show ∀ u v, addf (F := Ideal) (φ := .f32) (s := S128x128) u v i = u i + v i from fun _ _ => rfl,
    blockNumber_apply, fifth]
  rfl

/-- The state of the second class after the fourth group. -/
theorem secondLanes (x0 : Vec Ideal S128x128 .f32) (i : S128x128.Idx) :
    (k0_pay82 (k0_pay96 x0) (k0_pay97 x0) (k0_pay98 x0) i, k0_pay81 (k0_pay96 x0) (k0_pay97 x0) (k0_pay98 x0) i)
      = after4 (after3 (after2 (after1 (k0_pay10 i + 1#32)))) := by
  unfold k0_pay98 k0_pay97 k0_pay96 k0_pay95 k0_pay94 k0_pay93 k0_pay85
  rw [second4, second3b, second3a, second2, second1]
  unfold after3 groupA
  with_reducible rfl

/-- The second class's uniform number at a position. -/
theorem second (x0 : Vec Ideal S128x128 .f32) (i : S128x128.Idx) :
    max tiny (k0_pay99 x0 i) = uniform (kernelWord (k0_pay10 i + 1#32)) := by
  unfold k0_pay99
  rw [second5, secondLanes]
  unfold uniform kernelWord
  with_reducible rfl

end Cert.Proof

end
-- ==== Proof.Choice.lean ====
/- The mathematics of the problem, element by element: two classes with the probabilities 1 - σ(x) and σ(x), a draw
   between them by the larger of "Gumbel number plus log probability", the entropy, and the drawn log probability. -/
module

public import proofs.«01_k».proof.Proof.Threefry

@[expose] public section

noncomputable section

namespace Cert.Proof

open Idealize.ShloMosaic

/-- The probability of class 1. -/
def prob1 (x : EReal) : EReal := Ideal.logistic x

/-- The probability of class 0. -/
def prob0 (x : EReal) : EReal := one - prob1 x

/-- The log probability of class 1. -/
def log1 (x : EReal) : EReal := Ideal.log (prob1 x)

/-- The log probability of class 0. -/
def log0 (x : EReal) : EReal := Ideal.log (prob0 x)

/-- The score of class 1 at row `n`: the counter of its random word is `2 n + 1`. -/
def score1 (n : Word) (x : EReal) : EReal := gumbel (randomWord (n * 2#32 + 1#32)) + log1 x

/-- The score of class 0 at row `n`: the counter of its random word is `2 n`. -/
def score0 (n : Word) (x : EReal) : EReal := gumbel (randomWord (n * 2#32)) + log0 x

/-- The drawn class at row `n`: class 1 when its score is the larger, class 0 otherwise. -/
def action (n : Word) (x : EReal) : Word := if score0 n x < score1 n x then 1#32 else 0#32

/-- The entropy of the two probabilities. -/
def entropy (x : EReal) : EReal := -(log0 x * prob0 x + log1 x * prob1 x)

/-- The log probability of the drawn class. -/
def chosen (n : Word) (x : EReal) : EReal := if score0 n x < score1 n x then log1 x else log0 x

end Cert.Proof

end
-- ==== Proof.KernelBlock.lean ====
/- What one block of the kernel holds: its three stored blocks, element by element. -/
module

public import proofs.«01_k».proof.Proof.KernelBits
public import proofs.«01_k».proof.Proof.Choice
public import Idealize.ShloMosaic.Lib.Pipeline.ValueKit

@[expose] public section

noncomputable section

namespace Cert.Proof

open Idealize.ShloMosaic Cert.KernelIdeal Cert.KernelIdeal.Gen

/-- The row of the flat arrays that lies at a position of the block. -/
def rowOf (i : S128x128.Idx) : Word := BitVec.ofNat 32 (128 * (i 0).val + (i 1).val)

/-- Zero, as the kernel writes it, less a number. -/
theorem zero_bits_sub (x : EReal) : Ideal.ofBits .f32 0#32 - x = -x := by
  rw [show Ideal.ofBits .f32 0#32 = 0 by simp]
  exact zero_sub x

/-- The counter at a position, plus the second key word. -/
theorem counter (i : S128x128.Idx) : k0_pay10 i = rowOf i * 2#32 + 42#32 := by
  have h : k0_pay10 i = BitVec.ofNat 32 (i 0).val * 256#32 + BitVec.ofNat 32 (i 1).val * 2#32 + 42#32 := by
    have e0 : iota .tc S128x128 32 [0] iota_S128x128_d0_w32 i = BitVec.ofNat 32 (i 0).val := iota_single_apply _ _ _ _ _ _
    have e1 : iota .tc S128x128 32 [1] iota_S128x128_d1_w32 i = BitVec.ofNat 32 (i 1).val := iota_single_apply _ _ _ _ _ _
    rw [← e0, ← e1]
    rfl
  rw [h, rowOf]
  congr 1
  apply BitVec.eq_of_toNat_eq
  simp only [BitVec.toNat_add, BitVec.toNat_mul, BitVec.toNat_ofNat]
  omega

/-- The comparison at a position: class 1's score against class 0's. -/
theorem pick_apply (v g u : FVec Ideal S128x128 .f32) (i : S128x128.Idx) :
    k0_pay6 (F := Ideal) v g u i = Ideal.cmp .ogt
      (Ideal.ofBits .f32 0#32 - Ideal.log (Ideal.ofBits .f32 0#32 - Ideal.log (max tiny (u i))) + log1 (v i))
      (g i + log0 (v i)) := rfl

/-- The drawn class as one bit. -/
theorem pick (x0 : Vec Ideal S128x128 .f32) (v : FVec Ideal S128x128 .f32) (i : S128x128.Idx) :
    k0_pay6 (F := Ideal) v (k0_pay92 x0) (k0_pay99 x0) i
      = if score0 (rowOf i) (v i) < score1 (rowOf i) (v i) then 1#1 else 0#1 := by
  rw [pick_apply, first, second, counter, BitVec.add_assoc, BitVec.add_comm 42#32 1#32, ← BitVec.add_assoc,
    kernelWord_eq, kernelWord_eq]
  simp only [zero_bits_sub]
  show BitVec.ofBool (decide (score0 (rowOf i) (v i) < score1 (rowOf i) (v i))) = _
  by_cases h : score0 (rowOf i) (v i) < score1 (rowOf i) (v i) <;> simp [h]

/-- The stored drawn classes. -/
theorem block_action (x0 : Vec Ideal S128x128 .f32) (v : FVec Ideal S128x128 .f32) (i : S128x128.Idx) :
    k0_pay7 (F := Ideal) v (k0_pay92 x0) (k0_pay99 x0) i = action (rowOf i) (v i) := by
  show BitVec.setWidth 32 (k0_pay6 (F := Ideal) v (k0_pay92 x0) (k0_pay99 x0) i) = _
  rw [pick, action]
  split <;> rfl

/-- The stored entropies. -/
theorem block_entropy (v : FVec Ideal S128x128 .f32) (i : S128x128.Idx) :
    k0_pay5 (F := Ideal) v i = entropy (v i) := by
  rw [entropy, ← zero_bits_sub]
  rfl

/-- The stored log probabilities of the drawn classes. -/
theorem block_chosen (x0 : Vec Ideal S128x128 .f32) (v : FVec Ideal S128x128 .f32) (i : S128x128.Idx) :
    k0_pay8 (F := Ideal) v (k0_pay92 x0) (k0_pay99 x0) i = chosen (rowOf i) (v i) := by
  show Scalar.select (k0_pay6 (F := Ideal) v (k0_pay92 x0) (k0_pay99 x0) i) (log1 (v i)) (log0 (v i)) = _
  rw [pick, chosen]
  split <;> rfl

end Cert.Proof

end
-- ==== Proof.KernelValue.lean ====
/- What the kernel's three result arrays hold after the run, row by row. -/
module

public import proofs.«01_k».proof.Defs
public import proofs.«01_k».proof.Proof.KernelBlock
public import Idealize.ShloMosaic.Adequacy
public import Idealize.ShloMosaic.Init

@[expose] public section

noncomputable section

namespace Cert.Proof

open Idealize.ShloMosaic Idealize.SL.Sem Cert.KernelIdeal Cert.KernelIdeal.Gen

variable (m : (ℓ : Loc nD τ sig) → Buf (Elt Ideal) ℓ) (g : Dev nD → PrngReg)

/-- The argument as a block. -/
def argBlock (c : Dev nD) : Vec Ideal S128x128 .f32 :=
  shapeCast S128x128 (m ((c.tc : Thread nD τ).loc main_arg0)) shapeCasts_S16384x1_S128x128

/-- The region finds the argument as a block in the first window's array. -/
theorem entry (c : Dev nD) : V m c main_v0 = argBlock m c := by
  show StableHlo.after hostOps0 (fun b => m (c, b)) (Proc.devRef .tc main_v0) = _
  unfold hostOps0
  after_results
  rfl

/-- Every window's block lies at the array's corner. -/
theorem corner (t : Fin cfg0.N) : (win0_0.index t 0 = 0 ∧ win0_0.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) :=
  (by decide +kernel : ∀ t : Fin cfg0.N, (win0_0.index t 0 = 0 ∧ win0_0.index t 1 = 0)
    ∧ (win0_1.index t 0 = 0 ∧ win0_1.index t 1 = 0) ∧ (win0_2.index t 0 = 0 ∧ win0_2.index t 1 = 0)
    ∧ (win0_3.index t 0 = 0 ∧ win0_3.index t 1 = 0)) t

/-- The block the kernel loads is the argument's. -/
theorem loaded (c : Dev nD) (t : Fin cfg0.N) (y : S128x128.Idx) : k0_pay84 (iblk m c 0 t) y = argBlock m c y := by
  have h : k0_pay84 (iblk m c 0 t) = iblk m c 0 t := by
    unfold k0_pay84 k0_pay9
    exact (shapeCast_self _ _).trans (View.ld_unit_zero (funext fun a => by fin_cases a <;> rfl) _ _)
  have h0 := (corner t).1
  rw [h, ← entry]
  blk_ext [iblk, h0]

/-- The drawn classes, as the region leaves them. -/
theorem array_action (c : Dev nD) : (dats m 0 c).arrAt 1 (cfgs 0).N = fun j => action (rowOf j) (argBlock m c j) := by
  refine (dats m 0 c).arrAt_eq_of_covers 1 _ (by decide +kernel) fun t hf y => ?_
  have h1 := (corner t).2.1
  have hy : ((View.whole main_v1_0).slice (win0_1.rect t)).emb y = y := by blk_ext [h1]
  blk_simp
  rw [after0_1]
  frame_out
  rw [block_action, loaded, hy]

/-- The entropies, as the region leaves them. -/
theorem array_entropy (c : Dev nD) : (dats m 0 c).arrAt 2 (cfgs 0).N = fun j => entropy (argBlock m c j) := by
  refine (dats m 0 c).arrAt_eq_of_covers 2 _ (by decide +kernel) fun t hf y => ?_
  have h2 := (corner t).2.2.1
  have hy : ((View.whole main_v1_1).slice (win0_2.rect t)).emb y = y := by blk_ext [h2]
  blk_simp
  rw [after0_2]
  frame_out
  rw [block_entropy, loaded, hy]

/-- The log probabilities of the drawn classes, as the region leaves them. -/
theorem array_chosen (c : Dev nD) : (dats m 0 c).arrAt 3 (cfgs 0).N = fun j => chosen (rowOf j) (argBlock m c j) := by
  refine (dats m 0 c).arrAt_eq_of_covers 3 _ (by decide +kernel) fun t hf y => ?_
  have h3 := (corner t).2.2.2
  have hy : ((View.whole main_v1_2).slice (win0_3.rect t)).emb y = y := by blk_ext [h3]
  blk_simp
  rw [after0_3]
  frame_out
  rw [block_chosen, loaded, hy]

/-- The row of an index of a flat array. -/
def row (i : S16384x1.Idx) : Word := BitVec.ofNat 32 (i 0).val

/-- A block made row by row from the argument, laid out flat: each row is made from the argument's. -/
theorem flat {α : Type} (f : Word → EReal → α) (c : Dev nD) (i : S16384x1.Idx) :
    shapeCast S16384x1 (fun j => f (rowOf j) (argBlock m c j)) shapeCasts_S128x128_S16384x1 i
      = f (row i) (m ((c.tc : Thread nD τ).loc main_arg0) i) := by
  have hr : rowOf (Shape.reshapeEquiv shapeCasts_S128x128_S16384x1 i) = row i := by
    have h := Shape.rowMajor_reshapeEquiv shapeCasts_S128x128_S16384x1 i
    have hb : (S128x128.rowMajor (Shape.reshapeEquiv shapeCasts_S128x128_S16384x1 i)).val
        = ((Shape.reshapeEquiv shapeCasts_S128x128_S16384x1 i) 0).val * 128
          + ((Shape.reshapeEquiv shapeCasts_S128x128_S16384x1 i) 1).val := Shape.rowMajor_val_two _
    have hf : (S16384x1.rowMajor i).val = (i 0).val := by
      refine (Shape.rowMajor_val_two i).trans ?_
      show (i 0).val * 1 + (i 1).val = _
      have h1 : (i 1).val < 1 := (i 1).isLt
      omega
    rw [rowOf, row, ← hf, ← h, hb, Nat.mul_comm]
  have ha : argBlock m c (Shape.reshapeEquiv shapeCasts_S128x128_S16384x1 i)
      = m ((c.tc : Thread nD τ).loc main_arg0) i :=
    congrFun (shapeCast_shapeCast (m ((c.tc : Thread nD τ).loc main_arg0)) shapeCasts_S16384x1_S128x128
      shapeCasts_S128x128_S16384x1) i
  show f (rowOf (Shape.reshapeEquiv shapeCasts_S128x128_S16384x1 i))
    (argBlock m c (Shape.reshapeEquiv shapeCasts_S128x128_S16384x1 i)) = _
  rw [hr, ha]

/-- What the host lines after the region read of a result's array. -/
theorem leaves (c : Dev nD) (w : Fin cfg0.W) :
    Pipeline.withArrays (cfgs 0).spec c (V0 m c) (fun w => (dats m 0 c).arrAt w (cfgs 0).N)
      (Proc.devRef .tc (Pipeline.arrRef spec0 w)) = (dats m 0 c).arrAt w (cfgs 0).N :=
  Pipeline.withArrays_arr _ (by decide) c _ _ w

/-- The kernel runs; its results hold, row by row, the drawn class, the entropy and the drawn log probability. -/
theorem kernel_run : θ_run (defs (F := Ideal)) (onTc (τ := τ) (main (F := Ideal))) ⟨m, fun _ => 0, g⟩ (fun r => ∀ c : Dev nD,
      r.2.mem ((c.tc : Thread nD τ).loc main_v2) = (fun i => action (row i) (m ((c.tc : Thread nD τ).loc main_arg0) i))
      ∧ r.2.mem ((c.tc : Thread nD τ).loc main_v3) = (fun i => entropy (m ((c.tc : Thread nD τ).loc main_arg0) i))
      ∧ r.2.mem ((c.tc : Thread nD τ).loc main_v4) = (fun i => chosen (row i) (m ((c.tc : Thread nD τ).loc main_arg0) i))
      ∧ r.2.mem ((c.tc : Thread nD τ).loc main_arg0) = m ((c.tc : Thread nD τ).loc main_arg0)) := by
  run_from (Gen.run_main m g)
  · show StableHlo.after hostOps1 _ (Proc.devRef .tc main_v2) = _
    unfold hostOps1
    after_results
    exact funext fun i => (congrFun (congrArg (shapeCast S16384x1 · shapeCasts_S128x128_S16384x1)
      ((leaves m c 1).trans (array_action m c))) i).trans (flat m action c i)
  · show StableHlo.after hostOps1 _ (Proc.devRef .tc main_v3) = _
    unfold hostOps1
    after_results
    exact funext fun i => (congrFun (congrArg (shapeCast S16384x1 · shapeCasts_S128x128_S16384x1)
      ((leaves m c 2).trans (array_entropy m c))) i).trans (flat m (fun _ => entropy) c i)
  · show StableHlo.after hostOps1 _ (Proc.devRef .tc main_v4) = _
    unfold hostOps1
    after_results
    exact funext fun i => (congrFun (congrArg (shapeCast S16384x1 · shapeCasts_S128x128_S16384x1)
      ((leaves m c 3).trans (array_chosen m c))) i).trans (flat m chosen c i)
  · exact W_main_arg0 m (dats m) c

end Cert.Proof

end
-- ==== Proof.ReferenceOps.lean ====
/- The reference's operations, in order, as lists: the straight line that its program is. -/
module

public import proofs.«01_k».proof.Proof.Gen.ReferenceIdeal
public import Idealize.ShloMosaic.Lib.StableHlo.Run
public import Idealize.ShloMosaic.PureOps.Ideal

@[expose] public section

noncomputable section

namespace Cert.Proof.Ref

open Cert.ReferenceIdeal Cert.ReferenceIdeal.Gen Idealize.ShloMosaic Idealize.ShloMosaic.TcCoe Idealize.SL.Sem Idealize.ShloMosaic.StableHlo

/-- A straight line of operations on the reference's buffers. -/
abbrev Line (F : FTy → Type) := List (HloOp τ sig (Elt F))

variable {F : FTy → Type} [FloatOps F]

/-- Two columns side by side. -/
def sideBySide {α : Type} (a b : S16384x1.Idx → α) : S16384x2.Idx → α :=
  concatenate S16384x2 1 [⟨S16384x1, a⟩, ⟨S16384x1, b⟩] concatenates_S16384x1_S16384x1_S16384x2_d1

/-- Two one-element arrays joined. -/
def joined {α : Type} (a b : S1.Idx → α) : S2.Idx → α :=
  concatenate S2 0 [⟨S1, a⟩, ⟨S1, b⟩] concatenates_S1_S1_S2_d0

/-! ## The generator's body: the third key word and the first additions, then its five groups of rounds -/

/-- The generator: the third key word and the first additions. -/
def threefry0 (arg0 arg1 : TRef sig ⟨S_, .i32⟩) (arg2 arg3 : TRef sig ⟨S16384x2, .i32⟩) (φ : fn_threefry2x32.Bufs) : Line F :=
  [TRef.binary arg0 arg1 φ.v0 xori,
   TRef.nullary φ.c (constantI S_ 32 466688986#32),
   TRef.binary φ.v0 φ.c φ.v1 xori,
   TRef.unary arg0 φ.v2 (broadcastInDim S16384x2 ![] bcast_S_S16384x2),
   TRef.binary arg2 φ.v2 φ.v3 addi,
   TRef.unary arg1 φ.v4 (broadcastInDim S16384x2 ![] bcast_S_S16384x2),
   TRef.binary arg3 φ.v4 φ.v5 addi,
   TRef.binary φ.v3 φ.v5 φ.v6 addi]

/-- The generator: the first group of rounds. -/
def threefry1 (arg0 arg1 : TRef sig ⟨S_, .i32⟩) (arg2 arg3 : TRef sig ⟨S16384x2, .i32⟩) (φ : fn_threefry2x32.Bufs) : Line F :=
  [TRef.nullary φ.c_0 (constantI S_ 32 13#32),
   TRef.unary φ.c_0 φ.v7 (broadcastInDim S16384x2 ![] bcast_S_S16384x2),
   TRef.binary φ.v5 φ.v7 φ.v8 Host.shli,
   TRef.nullary φ.c_1 (constantI S_ 32 19#32),
   TRef.unary φ.c_1 φ.v9 (broadcastInDim S16384x2 ![] bcast_S_S16384x2),
   TRef.binary φ.v5 φ.v9 φ.v10 Host.shrui,
   TRef.binary φ.v8 φ.v10 φ.v11 ori,
   TRef.binary φ.v6 φ.v11 φ.v12 xori,
   TRef.binary φ.v6 φ.v12 φ.v13 addi,
   TRef.nullary φ.c_2 (constantI S_ 32 15#32),
   TRef.unary φ.c_2 φ.v14 (broadcastInDim S16384x2 ![] bcast_S_S16384x2),
   TRef.binary φ.v12 φ.v14 φ.v15 Host.shli,
   TRef.nullary φ.c_3 (constantI S_ 32 17#32),
   TRef.unary φ.c_3 φ.v16 (broadcastInDim S16384x2 ![] bcast_S_S16384x2),
   TRef.binary φ.v12 φ.v16 φ.v17 Host.shrui,
   TRef.binary φ.v15 φ.v17 φ.v18 ori,
   TRef.binary φ.v13 φ.v18 φ.v19 xori,
   TRef.binary φ.v13 φ.v19 φ.v20 addi,
   TRef.nullary φ.c_4 (constantI S_ 32 26#32),
   TRef.unary φ.c_4 φ.v21 (broadcastInDim S16384x2 ![] bcast_S_S16384x2),
   TRef.binary φ.v19 φ.v21 φ.v22 Host.shli,
   TRef.nullary φ.c_5 (constantI S_ 32 6#32),
   TRef.unary φ.c_5 φ.v23 (broadcastInDim S16384x2 ![] bcast_S_S16384x2),
   TRef.binary φ.v19 φ.v23 φ.v24 Host.shrui,
   TRef.binary φ.v22 φ.v24 φ.v25 ori,
   TRef.binary φ.v20 φ.v25 φ.v26 xori,
   TRef.binary φ.v20 φ.v26 φ.v27 addi,
   TRef.nullary φ.c_6 (constantI S_ 32 6#32),
   TRef.unary φ.c_6 φ.v28 (broadcastInDim S16384x2 ![] bcast_S_S16384x2),
   TRef.binary φ.v26 φ.v28 φ.v29 Host.shli,
   TRef.nullary φ.c_7 (constantI S_ 32 26#32),
   TRef.unary φ.c_7 φ.v30 (broadcastInDim S16384x2 ![] bcast_S_S16384x2),
   TRef.binary φ.v26 φ.v30 φ.v31 Host.shrui,
   TRef.binary φ.v29 φ.v31 φ.v32 ori,
   TRef.binary φ.v27 φ.v32 φ.v33 xori,
   TRef.unary arg1 φ.v34 (broadcastInDim S16384x2 ![] bcast_S_S16384x2),
   TRef.binary φ.v27 φ.v34 φ.v35 addi,
   TRef.unary φ.v1 φ.v36 (broadcastInDim S16384x2 ![] bcast_S_S16384x2),
   TRef.binary φ.v33 φ.v36 φ.v37 addi,
   TRef.nullary φ.c_8 (constantI S_ 32 1#32),
   TRef.unary φ.c_8 φ.v38 (broadcastInDim S16384x2 ![] bcast_S_S16384x2),
   TRef.binary φ.v37 φ.v38 φ.v39 addi,
   TRef.binary φ.v35 φ.v39 φ.v40 addi]

/-- The generator: the second group. -/
def threefry2 (arg0 arg1 : TRef sig ⟨S_, .i32⟩) (arg2 arg3 : TRef sig ⟨S16384x2, .i32⟩) (φ : fn_threefry2x32.Bufs) : Line F :=
  [TRef.nullary φ.c_9 (constantI S_ 32 17#32),
   TRef.unary φ.c_9 φ.v41 (broadcastInDim S16384x2 ![] bcast_S_S16384x2),
   TRef.binary φ.v39 φ.v41 φ.v42 Host.shli,
   TRef.nullary φ.c_10 (constantI S_ 32 15#32),
   TRef.unary φ.c_10 φ.v43 (broadcastInDim S16384x2 ![] bcast_S_S16384x2),
   TRef.binary φ.v39 φ.v43 φ.v44 Host.shrui,
   TRef.binary φ.v42 φ.v44 φ.v45 ori,
   TRef.binary φ.v40 φ.v45 φ.v46 xori,
   TRef.binary φ.v40 φ.v46 φ.v47 addi,
   TRef.nullary φ.c_11 (constantI S_ 32 29#32),
   TRef.unary φ.c_11 φ.v48 (broadcastInDim S16384x2 ![] bcast_S_S16384x2),
   TRef.binary φ.v46 φ.v48 φ.v49 Host.shli,
   TRef.nullary φ.c_12 (constantI S_ 32 3#32),
   TRef.unary φ.c_12 φ.v50 (broadcastInDim S16384x2 ![] bcast_S_S16384x2),
   TRef.binary φ.v46 φ.v50 φ.v51 Host.shrui,
   TRef.binary φ.v49 φ.v51 φ.v52 ori,
   TRef.binary φ.v47 φ.v52 φ.v53 xori,
   TRef.binary φ.v47 φ.v53 φ.v54 addi,
   TRef.nullary φ.c_13 (constantI S_ 32 16#32),
   TRef.unary φ.c_13 φ.v55 (broadcastInDim S16384x2 ![] bcast_S_S16384x2),
   TRef.binary φ.v53 φ.v55 φ.v56 Host.shli,
   TRef.nullary φ.c_14 (constantI S_ 32 16#32),
   TRef.unary φ.c_14 φ.v57 (broadcastInDim S16384x2 ![] bcast_S_S16384x2),
   TRef.binary φ.v53 φ.v57 φ.v58 Host.shrui,
   TRef.binary φ.v56 φ.v58 φ.v59 ori,
   TRef.binary φ.v54 φ.v59 φ.v60 xori,
   TRef.binary φ.v54 φ.v60 φ.v61 addi,
   TRef.nullary φ.c_15 (constantI S_ 32 24#32),
   TRef.unary φ.c_15 φ.v62 (broadcastInDim S16384x2 ![] bcast_S_S16384x2),
   TRef.binary φ.v60 φ.v62 φ.v63 Host.shli,
   TRef.nullary φ.c_16 (constantI S_ 32 8#32),
   TRef.unary φ.c_16 φ.v64 (broadcastInDim S16384x2 ![] bcast_S_S16384x2),
   TRef.binary φ.v60 φ.v64 φ.v65 Host.shrui,
   TRef.binary φ.v63 φ.v65 φ.v66 ori,
   TRef.binary φ.v61 φ.v66 φ.v67 xori,
   TRef.unary φ.v1 φ.v68 (broadcastInDim S16384x2 ![] bcast_S_S16384x2),
   TRef.binary φ.v61 φ.v68 φ.v69 addi,
   TRef.unary arg0 φ.v70 (broadcastInDim S16384x2 ![] bcast_S_S16384x2),
   TRef.binary φ.v67 φ.v70 φ.v71 addi,
   TRef.nullary φ.c_17 (constantI S_ 32 2#32),
   TRef.unary φ.c_17 φ.v72 (broadcastInDim S16384x2 ![] bcast_S_S16384x2),
   TRef.binary φ.v71 φ.v72 φ.v73 addi,
   TRef.binary φ.v69 φ.v73 φ.v74 addi]

/-- The generator: the third group. -/
def threefry3 (arg0 arg1 : TRef sig ⟨S_, .i32⟩) (arg2 arg3 : TRef sig ⟨S16384x2, .i32⟩) (φ : fn_threefry2x32.Bufs) : Line F :=
  [TRef.nullary φ.c_18 (constantI S_ 32 13#32),
   TRef.unary φ.c_18 φ.v75 (broadcastInDim S16384x2 ![] bcast_S_S16384x2),
   TRef.binary φ.v73 φ.v75 φ.v76 Host.shli,
   TRef.nullary φ.c_19 (constantI S_ 32 19#32),
   TRef.unary φ.c_19 φ.v77 (broadcastInDim S16384x2 ![] bcast_S_S16384x2),
   TRef.binary φ.v73 φ.v77 φ.v78 Host.shrui,
   TRef.binary φ.v76 φ.v78 φ.v79 ori,
   TRef.binary φ.v74 φ.v79 φ.v80 xori,
   TRef.binary φ.v74 φ.v80 φ.v81 addi,
   TRef.nullary φ.c_20 (constantI S_ 32 15#32),
   TRef.unary φ.c_20 φ.v82 (broadcastInDim S16384x2 ![] bcast_S_S16384x2),
   TRef.binary φ.v80 φ.v82 φ.v83 Host.shli,
   TRef.nullary φ.c_21 (constantI S_ 32 17#32),
   TRef.unary φ.c_21 φ.v84 (broadcastInDim S16384x2 ![] bcast_S_S16384x2),
   TRef.binary φ.v80 φ.v84 φ.v85 Host.shrui,
   TRef.binary φ.v83 φ.v85 φ.v86 ori,
   TRef.binary φ.v81 φ.v86 φ.v87 xori,
   TRef.binary φ.v81 φ.v87 φ.v88 addi,
   TRef.nullary φ.c_22 (constantI S_ 32 26#32),
   TRef.unary φ.c_22 φ.v89 (broadcastInDim S16384x2 ![] bcast_S_S16384x2),
   TRef.binary φ.v87 φ.v89 φ.v90 Host.shli,
   TRef.nullary φ.c_23 (constantI S_ 32 6#32),
   TRef.unary φ.c_23 φ.v91 (broadcastInDim S16384x2 ![] bcast_S_S16384x2),
   TRef.binary φ.v87 φ.v91 φ.v92 Host.shrui,
   TRef.binary φ.v90 φ.v92 φ.v93 ori,
   TRef.binary φ.v88 φ.v93 φ.v94 xori,
   TRef.binary φ.v88 φ.v94 φ.v95 addi,
   TRef.nullary φ.c_24 (constantI S_ 32 6#32),
   TRef.unary φ.c_24 φ.v96 (broadcastInDim S16384x2 ![] bcast_S_S16384x2),
   TRef.binary φ.v94 φ.v96 φ.v97 Host.shli,
   TRef.nullary φ.c_25 (constantI S_ 32 26#32),
   TRef.unary φ.c_25 φ.v98 (broadcastInDim S16384x2 ![] bcast_S_S16384x2),
   TRef.binary φ.v94 φ.v98 φ.v99 Host.shrui,
   TRef.binary φ.v97 φ.v99 φ.v100 ori,
   TRef.binary φ.v95 φ.v100 φ.v101 xori,
   TRef.unary arg0 φ.v102 (broadcastInDim S16384x2 ![] bcast_S_S16384x2),
   TRef.binary φ.v95 φ.v102 φ.v103 addi,
   TRef.unary arg1 φ.v104 (broadcastInDim S16384x2 ![] bcast_S_S16384x2),
   TRef.binary φ.v101 φ.v104 φ.v105 addi,
   TRef.nullary φ.c_26 (constantI S_ 32 3#32),
   TRef.unary φ.c_26 φ.v106 (broadcastInDim S16384x2 ![] bcast_S_S16384x2),
   TRef.binary φ.v105 φ.v106 φ.v107 addi,
   TRef.binary φ.v103 φ.v107 φ.v108 addi]

/-- The generator: the fourth group. -/
def threefry4 (arg0 arg1 : TRef sig ⟨S_, .i32⟩) (arg2 arg3 : TRef sig ⟨S16384x2, .i32⟩) (φ : fn_threefry2x32.Bufs) : Line F :=
  [TRef.nullary φ.c_27 (constantI S_ 32 17#32),
   TRef.unary φ.c_27 φ.v109 (broadcastInDim S16384x2 ![] bcast_S_S16384x2),
   TRef.binary φ.v107 φ.v109 φ.v110 Host.shli,
   TRef.nullary φ.c_28 (constantI S_ 32 15#32),
   TRef.unary φ.c_28 φ.v111 (broadcastInDim S16384x2 ![] bcast_S_S16384x2),
   TRef.binary φ.v107 φ.v111 φ.v112 Host.shrui,
   TRef.binary φ.v110 φ.v112 φ.v113 ori,
   TRef.binary φ.v108 φ.v113 φ.v114 xori,
   TRef.binary φ.v108 φ.v114 φ.v115 addi,
   TRef.nullary φ.c_29 (constantI S_ 32 29#32),
   TRef.unary φ.c_29 φ.v116 (broadcastInDim S16384x2 ![] bcast_S_S16384x2),
   TRef.binary φ.v114 φ.v116 φ.v117 Host.shli,
   TRef.nullary φ.c_30 (constantI S_ 32 3#32),
   TRef.unary φ.c_30 φ.v118 (broadcastInDim S16384x2 ![] bcast_S_S16384x2),
   TRef.binary φ.v114 φ.v118 φ.v119 Host.shrui,
   TRef.binary φ.v117 φ.v119 φ.v120 ori,
   TRef.binary φ.v115 φ.v120 φ.v121 xori,
   TRef.binary φ.v115 φ.v121 φ.v122 addi,
   TRef.nullary φ.c_31 (constantI S_ 32 16#32),
   TRef.unary φ.c_31 φ.v123 (broadcastInDim S16384x2 ![] bcast_S_S16384x2),
   TRef.binary φ.v121 φ.v123 φ.v124 Host.shli,
   TRef.nullary φ.c_32 (constantI S_ 32 16#32),
   TRef.unary φ.c_32 φ.v125 (broadcastInDim S16384x2 ![] bcast_S_S16384x2),
   TRef.binary φ.v121 φ.v125 φ.v126 Host.shrui,
   TRef.binary φ.v124 φ.v126 φ.v127 ori,
   TRef.binary φ.v122 φ.v127 φ.v128 xori,
   TRef.binary φ.v122 φ.v128 φ.v129 addi,
   TRef.nullary φ.c_33 (constantI S_ 32 24#32),
   TRef.unary φ.c_33 φ.v130 (broadcastInDim S16384x2 ![] bcast_S_S16384x2),
   TRef.binary φ.v128 φ.v130 φ.v131 Host.shli,
   TRef.nullary φ.c_34 (constantI S_ 32 8#32),
   TRef.unary φ.c_34 φ.v132 (broadcastInDim S16384x2 ![] bcast_S_S16384x2),
   TRef.binary φ.v128 φ.v132 φ.v133 Host.shrui,
   TRef.binary φ.v131 φ.v133 φ.v134 ori,
   TRef.binary φ.v129 φ.v134 φ.v135 xori,
   TRef.unary arg1 φ.v136 (broadcastInDim S16384x2 ![] bcast_S_S16384x2),
   TRef.binary φ.v129 φ.v136 φ.v137 addi,
   TRef.unary φ.v1 φ.v138 (broadcastInDim S16384x2 ![] bcast_S_S16384x2),
   TRef.binary φ.v135 φ.v138 φ.v139 addi,
   TRef.nullary φ.c_35 (constantI S_ 32 4#32),
   TRef.unary φ.c_35 φ.v140 (broadcastInDim S16384x2 ![] bcast_S_S16384x2),
   TRef.binary φ.v139 φ.v140 φ.v141 addi,
   TRef.binary φ.v137 φ.v141 φ.v142 addi]

/-- The generator: the fifth group. -/
def threefry5 (arg0 arg1 : TRef sig ⟨S_, .i32⟩) (arg2 arg3 : TRef sig ⟨S16384x2, .i32⟩) (φ : fn_threefry2x32.Bufs) : Line F :=
  [TRef.nullary φ.c_36 (constantI S_ 32 13#32),
   TRef.unary φ.c_36 φ.v143 (broadcastInDim S16384x2 ![] bcast_S_S16384x2),
   TRef.binary φ.v141 φ.v143 φ.v144 Host.shli,
   TRef.nullary φ.c_37 (constantI S_ 32 19#32),
   TRef.unary φ.c_37 φ.v145 (broadcastInDim S16384x2 ![] bcast_S_S16384x2),
   TRef.binary φ.v141 φ.v145 φ.v146 Host.shrui,
   TRef.binary φ.v144 φ.v146 φ.v147 ori,
   TRef.binary φ.v142 φ.v147 φ.v148 xori,
   TRef.binary φ.v142 φ.v148 φ.v149 addi,
   TRef.nullary φ.c_38 (constantI S_ 32 15#32),
   TRef.unary φ.c_38 φ.v150 (broadcastInDim S16384x2 ![] bcast_S_S16384x2),
   TRef.binary φ.v148 φ.v150 φ.v151 Host.shli,
   TRef.nullary φ.c_39 (constantI S_ 32 17#32),
   TRef.unary φ.c_39 φ.v152 (broadcastInDim S16384x2 ![] bcast_S_S16384x2),
   TRef.binary φ.v148 φ.v152 φ.v153 Host.shrui,
   TRef.binary φ.v151 φ.v153 φ.v154 ori,
   TRef.binary φ.v149 φ.v154 φ.v155 xori,
   TRef.binary φ.v149 φ.v155 φ.v156 addi,
   TRef.nullary φ.c_40 (constantI S_ 32 26#32),
   TRef.unary φ.c_40 φ.v157 (broadcastInDim S16384x2 ![] bcast_S_S16384x2),
   TRef.binary φ.v155 φ.v157 φ.v158 Host.shli,
   TRef.nullary φ.c_41 (constantI S_ 32 6#32),
   TRef.unary φ.c_41 φ.v159 (broadcastInDim S16384x2 ![] bcast_S_S16384x2),
   TRef.binary φ.v155 φ.v159 φ.v160 Host.shrui,
   TRef.binary φ.v158 φ.v160 φ.v161 ori,
   TRef.binary φ.v156 φ.v161 φ.v162 xori,
   TRef.binary φ.v156 φ.v162 φ.v163 addi,
   TRef.nullary φ.c_42 (constantI S_ 32 6#32),
   TRef.unary φ.c_42 φ.v164 (broadcastInDim S16384x2 ![] bcast_S_S16384x2),
   TRef.binary φ.v162 φ.v164 φ.v165 Host.shli,
   TRef.nullary φ.c_43 (constantI S_ 32 26#32),
   TRef.unary φ.c_43 φ.v166 (broadcastInDim S16384x2 ![] bcast_S_S16384x2),
   TRef.binary φ.v162 φ.v166 φ.v167 Host.shrui,
   TRef.binary φ.v165 φ.v167 φ.v168 ori,
   TRef.binary φ.v163 φ.v168 φ.v169 xori,
   TRef.unary φ.v1 φ.v170 (broadcastInDim S16384x2 ![] bcast_S_S16384x2),
   TRef.binary φ.v163 φ.v170 φ.v171 addi,
   TRef.unary arg0 φ.v172 (broadcastInDim S16384x2 ![] bcast_S_S16384x2),
   TRef.binary φ.v169 φ.v172 φ.v173 addi,
   TRef.nullary φ.c_44 (constantI S_ 32 5#32),
   TRef.unary φ.c_44 φ.v174 (broadcastInDim S16384x2 ![] bcast_S_S16384x2),
   TRef.binary φ.v173 φ.v174 φ.v175 addi]

/-! ## The uniform numbers, the Gumbel numbers, the argmax and the gather -/

/-- The uniform numbers: the ends of the interval, the key words and the counters. -/
def uniform0 (arg0 : TRef sig ⟨S2, .i32⟩) (arg1 arg2 : TRef sig ⟨S_, .f32⟩) (φ : fn_uniform.Bufs) : Line F :=
  [TRef.unary arg1 φ.v0 id,
   TRef.unary arg2 φ.v1 (broadcastInDim S1x1 ![] bcast_S_S1x1),
   TRef.unary φ.v0 φ.v2 (broadcastInDim S1x1 ![] bcast_S_S1x1),
   TRef.unary arg0 φ.v3 (extractStridedSlice S1 ![0] · slices_S2_S1_0),
   TRef.reshape φ.v3 φ.v4 (rfl : (.i32 : EltTy) = .i32) shapeCasts_S1_S_,
   TRef.unary arg0 φ.v5 (extractStridedSlice S1 ![1] · slices_S2_S1_1),
   TRef.reshape φ.v5 φ.v6 (rfl : (.i32 : EltTy) = .i32) shapeCasts_S1_S_,
   TRef.nullary φ.v7 (iotaInDim S16384x2 64 0),
   TRef.nullary φ.v8 (iotaInDim S16384x2 64 1),
   TRef.nullary φ.c (constantI S_ 64 2#64),
   TRef.unary φ.c φ.v9 (broadcastInDim S16384x2 ![] bcast_S_S16384x2),
   TRef.binary φ.v9 φ.v7 φ.v10 muli,
   TRef.nullary φ.c_0 (constantI S_ 64 1#64),
   TRef.unary φ.c_0 φ.v11 (broadcastInDim S16384x2 ![] bcast_S_S16384x2),
   TRef.binary φ.v11 φ.v8 φ.v12 muli,
   TRef.binary φ.v10 φ.v12 φ.v13 addi,
   TRef.nullary φ.c_1 (constantI S_ 64 32#64),
   TRef.unary φ.c_1 φ.v14 (broadcastInDim S16384x2 ![] bcast_S_S16384x2),
   TRef.binary φ.v13 φ.v14 φ.v15 Host.shrui,
   TRef.unary φ.v13 φ.v16 (trunci 32 · natLt_32_64),
   TRef.unary φ.v15 φ.v17 (trunci 32 · natLt_32_64)]

/-- The uniform numbers: from the random words to the numbers. -/
def uniform1 (φ : fn_uniform.Bufs) : Line F :=
  [TRef.binary φ.call0.v171 φ.call0.v175 φ.v19 xori,
   TRef.nullary φ.c_2 (constantI S_ 32 9#32),
   TRef.unary φ.c_2 φ.v20 (broadcastInDim S16384x2 ![] bcast_S_S16384x2),
   TRef.binary φ.v19 φ.v20 φ.v21 Host.shrui,
   TRef.nullary φ.c_3 (constantI S_ 32 1065353216#32),
   TRef.unary φ.c_3 φ.v22 (broadcastInDim S16384x2 ![] bcast_S_S16384x2),
   TRef.binary φ.v21 φ.v22 φ.v23 ori,
   TRef.unary φ.v23 φ.v24 (bitcastToFloat .f32),
   TRef.nullary φ.cst (constant S_ .f32 0x3F800000#32),
   TRef.unary φ.cst φ.v25 (broadcastInDim S16384x2 ![] bcast_S_S16384x2),
   TRef.binary φ.v24 φ.v25 φ.v26 subf,
   TRef.binary φ.v2 φ.v1 φ.v27 subf,
   TRef.unary φ.v27 φ.v28 (broadcastInDim S16384x2 ![0, 1] bcast_S1x1_S16384x2_0_1),
   TRef.binary φ.v26 φ.v28 φ.v29 mulf,
   TRef.unary φ.v1 φ.v30 (broadcastInDim S16384x2 ![0, 1] bcast_S1x1_S16384x2_0_1),
   TRef.binary φ.v29 φ.v30 φ.v31 addf,
   TRef.unary φ.v1 φ.v32 (broadcastInDim S16384x2 ![0, 1] bcast_S1x1_S16384x2_0_1),
   TRef.binary φ.v32 φ.v31 φ.v33 maximumf]

/-- The Gumbel numbers: the two ends. -/
def gumbel0 (φ : fn_gumbel.Bufs) : Line F :=
  [TRef.nullary φ.cst (constant S_ .f32 0x3F800000#32),
   TRef.nullary φ.cst_0 (constant S_ .f32 0x00800000#32)]

/-- The Gumbel numbers: two logarithms, each negated. -/
def gumbel1 (φ : fn_gumbel.Bufs) : Line F :=
  [TRef.unary φ.call0.v33 φ.v1 Host.log,
   TRef.unary φ.v1 φ.v2 Host.negf,
   TRef.unary φ.v2 φ.v3 Host.log,
   TRef.unary φ.v3 φ.v4 Host.negf]

/-- The argmax of each row. -/
def argmax (arg0 : TRef sig ⟨S16384x2, .f32⟩) (φ : fn_argmax.Bufs) : Line F :=
  [TRef.nullary φ.v0 (iotaInDim S16384x2 32 1),
   TRef.nullary φ.cst (constant S_ .f32 0xFF800000#32),
   TRef.nullary φ.c (constantI S_ 32 0#32),
   TRef.quaternary arg0 φ.v0 φ.cst φ.c φ.v1_0 (fun x y u v j => (Host.argReduce reducer_argmax_f32_i32 x y u v reducesTo_S16384x2_S16384_d1 h_S_ j).1),
   TRef.quaternary arg0 φ.v0 φ.cst φ.c φ.v1_1 (fun x y u v j => (Host.argReduce reducer_argmax_f32_i32 x y u v reducesTo_S16384x2_S16384_d1 h_S_ j).2)]

/-- The entry of each row at an index. -/
def take (arg0 : TRef sig ⟨S16384x2, .f32⟩) (arg1 : TRef sig ⟨S16384x1, .i32⟩) (φ : fn_take_along_axis.Bufs) : Line F :=
  [TRef.nullary φ.c (constantI S_ 32 0#32),
   TRef.unary φ.c φ.v0 (broadcastInDim S16384x1 ![] bcast_S_S16384x1),
   TRef.binary arg1 φ.v0 φ.v1 (cmpi .slt),
   TRef.nullary φ.c_0 (constantI S_ 32 2#32),
   TRef.unary φ.c_0 φ.v2 (broadcastInDim S16384x1 ![] bcast_S_S16384x1),
   TRef.binary arg1 φ.v2 φ.v3 addi,
   TRef.ternary φ.v1 φ.v3 arg1 φ.v4 select,
   TRef.reshape φ.v4 φ.v5 (rfl : (.i32 : EltTy) = .i32) shapeCasts_S16384x1_S16384x1x1,
   TRef.nullary φ.c_1 (constantI S1 32 1#32),
   TRef.nullary φ.c_2 (constantI S_ 32 0#32),
   TRef.unary φ.c_2 φ.v6 (broadcastInDim S16384x1x1 ![] bcast_S_S16384x1x1),
   TRef.binary φ.v5 φ.v6 φ.v7 (cmpi .sge),
   TRef.unary φ.c_1 φ.v8 (broadcastInDim S1x1x1 ![2] bcast_S1_S1x1x1_2),
   TRef.unary φ.v8 φ.v9 (broadcastInDim S16384x1x1 ![0, 1, 2] bcast_S1x1x1_S16384x1x1_0_1_2),
   TRef.binary φ.v5 φ.v9 φ.v10 (cmpi .sle),
   TRef.binary φ.v7 φ.v10 φ.v11 andi,
   TRef.nullary φ.c_3 (constantI S_ 1 1#1),
   TRef.binary φ.v11 φ.c_3 φ.v12 (fun x v => Host.reduce IntOp.andi x v reducesTo_S16384x1x1_S16384x1_d2 h_S_),
   TRef.binary arg0 φ.v5 φ.v13 (fun x i => Host.gather gather_S16384x2_S16384x1x1_S16384x1_n_1_0_0_1_2_11 x i),
   TRef.nullary φ.cst (constant S_ .f32 0x7FC00000#32),
   TRef.unary φ.cst φ.v14 (broadcastInDim S16384x1 ![] bcast_S_S16384x1),
   TRef.ternary φ.v12 φ.v13 φ.v14 φ.v15 select]

/-! ## The main line -/

/-- The probabilities, their logarithms and the entropy. -/
def main0 : Line F :=
  [unary main_arg0 main_v0 (Host.negf : (⟨S16384x1, .f32⟩ : BufTy).Contents (Elt F) → (⟨S16384x1, .f32⟩ : BufTy).Contents (Elt F)),
   unary main_v0 main_v1 (Host.exp : (⟨S16384x1, .f32⟩ : BufTy).Contents (Elt F) → (⟨S16384x1, .f32⟩ : BufTy).Contents (Elt F)),
   nullary main_cst (constant S_ .f32 0x3F800000#32),
   unary main_cst main_v2 (broadcastInDim S16384x1 ![] bcast_S_S16384x1 : (⟨S_, .f32⟩ : BufTy).Contents (Elt F) → (⟨S16384x1, .f32⟩ : BufTy).Contents (Elt F)),
   binary main_v2 main_v1 main_v3 (addf : (⟨S16384x1, .f32⟩ : BufTy).Contents (Elt F) → (⟨S16384x1, .f32⟩ : BufTy).Contents (Elt F) → (⟨S16384x1, .f32⟩ : BufTy).Contents (Elt F)),
   nullary main_cst_0 (constant S_ .f32 0x3F800000#32),
   unary main_cst_0 main_v4 (broadcastInDim S16384x1 ![] bcast_S_S16384x1 : (⟨S_, .f32⟩ : BufTy).Contents (Elt F) → (⟨S16384x1, .f32⟩ : BufTy).Contents (Elt F)),
   binary main_v4 main_v3 main_v5 (Host.divf : (⟨S16384x1, .f32⟩ : BufTy).Contents (Elt F) → (⟨S16384x1, .f32⟩ : BufTy).Contents (Elt F) → (⟨S16384x1, .f32⟩ : BufTy).Contents (Elt F)),
   nullary main_cst_1 (constant S_ .f32 0x3F800000#32),
   unary main_cst_1 main_v6 (broadcastInDim S16384x1 ![] bcast_S_S16384x1 : (⟨S_, .f32⟩ : BufTy).Contents (Elt F) → (⟨S16384x1, .f32⟩ : BufTy).Contents (Elt F)),
   binary main_v6 main_v5 main_v7 (subf : (⟨S16384x1, .f32⟩ : BufTy).Contents (Elt F) → (⟨S16384x1, .f32⟩ : BufTy).Contents (Elt F) → (⟨S16384x1, .f32⟩ : BufTy).Contents (Elt F)),
   binary main_v7 main_v5 main_v8 (sideBySide : (⟨S16384x1, .f32⟩ : BufTy).Contents (Elt F) → (⟨S16384x1, .f32⟩ : BufTy).Contents (Elt F) → (⟨S16384x2, .f32⟩ : BufTy).Contents (Elt F)),
   unary main_v8 main_v9 (Host.log : (⟨S16384x2, .f32⟩ : BufTy).Contents (Elt F) → (⟨S16384x2, .f32⟩ : BufTy).Contents (Elt F)),
   binary main_v9 main_v8 main_v10 (mulf : (⟨S16384x2, .f32⟩ : BufTy).Contents (Elt F) → (⟨S16384x2, .f32⟩ : BufTy).Contents (Elt F) → (⟨S16384x2, .f32⟩ : BufTy).Contents (Elt F)),
   nullary main_cst_2 (constant S_ .f32 0x00000000#32),
   binary main_v10 main_cst_2 main_v11 ((fun x v => Host.reduceAdd x v reducesTo_S16384x2_S16384_d1 h_S_) : (⟨S16384x2, .f32⟩ : BufTy).Contents (Elt F) → (⟨S_, .f32⟩ : BufTy).Contents (Elt F) → (⟨S16384, .f32⟩ : BufTy).Contents (Elt F)),
   unary main_v11 main_v12 (broadcastInDim S16384x1 ![0] bcast_S16384_S16384x1_0 : (⟨S16384, .f32⟩ : BufTy).Contents (Elt F) → (⟨S16384x1, .f32⟩ : BufTy).Contents (Elt F)),
   unary main_v12 main_v13 (Host.negf : (⟨S16384x1, .f32⟩ : BufTy).Contents (Elt F) → (⟨S16384x1, .f32⟩ : BufTy).Contents (Elt F))]

/-- The key. -/
def main1 : Line F :=
  [nullary main_c (constantI S_ 32 42#32),
   nullary main_c_3 (constantI S_ 32 32#32),
   binary main_c main_c_3 main_v14 (Host.shrui : (⟨S_, .i32⟩ : BufTy).Contents (Elt F) → (⟨S_, .i32⟩ : BufTy).Contents (Elt F) → (⟨S_, .i32⟩ : BufTy).Contents (Elt F)),
   unary main_v14 main_v15 (id : (⟨S_, .i32⟩ : BufTy).Contents (Elt F) → (⟨S_, .i32⟩ : BufTy).Contents (Elt F)),
   unary main_v15 main_v16 (broadcastInDim S1 ![] bcast_S_S1 : (⟨S_, .i32⟩ : BufTy).Contents (Elt F) → (⟨S1, .i32⟩ : BufTy).Contents (Elt F)),
   nullary main_c_4 (constantI S_ 32 4294967295#32),
   binary main_c main_c_4 main_v17 (andi : (⟨S_, .i32⟩ : BufTy).Contents (Elt F) → (⟨S_, .i32⟩ : BufTy).Contents (Elt F) → (⟨S_, .i32⟩ : BufTy).Contents (Elt F)),
   unary main_v17 main_v18 (id : (⟨S_, .i32⟩ : BufTy).Contents (Elt F) → (⟨S_, .i32⟩ : BufTy).Contents (Elt F)),
   unary main_v18 main_v19 (broadcastInDim S1 ![] bcast_S_S1 : (⟨S_, .i32⟩ : BufTy).Contents (Elt F) → (⟨S1, .i32⟩ : BufTy).Contents (Elt F)),
   binary main_v16 main_v19 main_v20 (joined : (⟨S1, .i32⟩ : BufTy).Contents (Elt F) → (⟨S1, .i32⟩ : BufTy).Contents (Elt F) → (⟨S2, .i32⟩ : BufTy).Contents (Elt F))]

/-- The scores. -/
def main2 : Line F :=
  [binary main_v21 main_v9 main_v22 (addf : (⟨S16384x2, .f32⟩ : BufTy).Contents (Elt F) → (⟨S16384x2, .f32⟩ : BufTy).Contents (Elt F) → (⟨S16384x2, .f32⟩ : BufTy).Contents (Elt F))]

/-- The drawn classes as a column. -/
def main3 : Line F :=
  [unary main_v23 main_v24 (broadcastInDim S16384x1 ![0] bcast_S16384_S16384x1_0 : (⟨S16384, .i32⟩ : BufTy).Contents (Elt F) → (⟨S16384x1, .i32⟩ : BufTy).Contents (Elt F))]

/-- The generator's whole line. -/
def threefryOps (arg0 arg1 : TRef sig ⟨S_, .i32⟩) (arg2 arg3 : TRef sig ⟨S16384x2, .i32⟩) (φ : fn_threefry2x32.Bufs) : Line F :=
  threefry0 arg0 arg1 arg2 arg3 φ ++ (threefry1 arg0 arg1 arg2 arg3 φ ++ (threefry2 arg0 arg1 arg2 arg3 φ ++ (threefry3 arg0 arg1 arg2 arg3 φ ++ (threefry4 arg0 arg1 arg2 arg3 φ ++ threefry5 arg0 arg1 arg2 arg3 φ))))

/-- The uniform numbers' whole line. -/
def uniformOps (arg0 : TRef sig ⟨S2, .i32⟩) (arg1 arg2 : TRef sig ⟨S_, .f32⟩) (φ : fn_uniform.Bufs) : Line F :=
  uniform0 arg0 arg1 arg2 φ ++ (threefryOps φ.v4 φ.v6 φ.v17 φ.v16 φ.call0 ++ uniform1 φ)

/-- The Gumbel numbers' whole line. -/
def gumbelOps (arg0 : TRef sig ⟨S2, .i32⟩) (φ : fn_gumbel.Bufs) : Line F :=
  gumbel0 φ ++ (uniformOps arg0 φ.cst φ.cst_0 φ.call0 ++ gumbel1 φ)

/-- The reference's whole line. -/
def ops : Line F :=
  main0 ++ (main1 ++ (gumbelOps (.of main_v20) main_call0 ++ (main2 ++ (argmax (.of main_v22) main_call1 ++ (main3 ++ take (.of main_v9) (.of main_v24) main_call2)))))

set_option maxRecDepth 8192 in
/-- The generator's body is its line. -/
theorem threefry_eq (arg0 arg1 : TRef sig ⟨S_, .i32⟩) (arg2 arg3 : TRef sig ⟨S16384x2, .i32⟩) (φ : fn_threefry2x32.Bufs) :
    fn_threefry2x32.body (F := F) arg0 arg1 arg2 arg3 φ = seq (threefryOps arg0 arg1 arg2 arg3 φ) := by
  rfl

/-- The uniform numbers' body is its line. -/
theorem uniform_eq (arg0 : TRef sig ⟨S2, .i32⟩) (arg1 arg2 : TRef sig ⟨S_, .f32⟩) (φ : fn_uniform.Bufs) : fn_uniform.body (F := F) arg0 arg1 arg2 φ = seq (uniformOps arg0 arg1 arg2 φ) := by
  simp only [uniformOps, seq_append, ← threefry_eq]
  rfl

/-- The Gumbel numbers' body is its line. -/
theorem gumbel_eq (arg0 : TRef sig ⟨S2, .i32⟩) (φ : fn_gumbel.Bufs) : fn_gumbel.body (F := F) arg0 φ = seq (gumbelOps arg0 φ) := by
  simp only [gumbelOps, seq_append, ← uniform_eq]
  rfl

/-- The argmax's body is its line. -/
theorem argmax_eq (arg0 : TRef sig ⟨S16384x2, .f32⟩) (φ : fn_argmax.Bufs) : fn_argmax.body (F := F) arg0 φ = seq (argmax arg0 φ) := rfl

/-- The gather's body is its line. -/
theorem take_eq (arg0 : TRef sig ⟨S16384x2, .f32⟩) (arg1 : TRef sig ⟨S16384x1, .i32⟩) (φ : fn_take_along_axis.Bufs) :
    fn_take_along_axis.body (F := F) arg0 arg1 φ = seq (take arg0 arg1 φ) := rfl

/-- The reference's program is its line. -/
theorem main_eq (c : Dev nD) : main (F := F) c = seq ops := by
  simp only [ops, seq_append, ← gumbel_eq, ← argmax_eq, ← take_eq]
  rfl

end Cert.Proof.Ref

end
-- ==== Proof.ReferenceRun.lean ====
/- The reference's run: its straight line of operations runs from any memory to the fold of their results. -/
module

public import proofs.«01_k».proof.Proof.ReferenceOps
public import Idealize.ShloMosaic.Lib.StableHlo.Run
public import Idealize.ShloMosaic.Lib.Quiescent

@[expose] public section

set_option maxRecDepth 8192
set_option maxHeartbeats 2000000

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The operation touches device buffers only, and its results are determined. -/
def Plain (op : HloOp τ sig (Elt F)) : Prop := op.bufs ⊆ tcRefs τ sig ∧ op.fresh = ∅

/-- A constant is plain. -/
theorem plain_nullary {y v} (hy) : Plain (F := F) (nullary y v hy) := ⟨nullary_bufs_sub .., rfl⟩

/-- An operation of one operand is plain. -/
theorem plain_unary {x y f} (hx hy) : Plain (F := F) (unary x y f hx hy) := ⟨unary_bufs_sub .., rfl⟩

/-- An operation of two operands is plain. -/
theorem plain_binary {a b y f} (ha hb hy) : Plain (F := F) (binary a b y f ha hb hy) := ⟨binary_bufs_sub .., rfl⟩

/-- An operation of three operands is plain. -/
theorem plain_ternary {c a b y f} (hc ha hb hy) : Plain (F := F) (ternary c a b y f hc ha hb hy) := ⟨ternary_bufs_sub .., rfl⟩

/-- An operation of four operands is plain. -/
theorem plain_quaternary {a b c e y f} (ha hb hc he hy) : Plain (F := F) (quaternary a b c e y f ha hb hc he hy) :=
  ⟨quaternary_bufs_sub .., rfl⟩

/-- A reshape is plain. -/
theorem plain_reshape {x y} (he hn hx hy) : Plain (F := F) (reshape x y he hn hx hy) := ⟨reshape_bufs_sub .., rfl⟩

/-- Every operation of the generator is plain. -/
theorem plain_threefry (arg0 arg1 : TRef sig ⟨S_, .i32⟩) (arg2 arg3 : TRef sig ⟨S16384x2, .i32⟩) (φ : fn_threefry2x32.Bufs) :
    ∀ op ∈ threefryOps (F := F) arg0 arg1 arg2 arg3 φ, Plain op := by
  simp only [threefryOps, threefry0, threefry1, threefry2, threefry3, threefry4, threefry5, List.forall_mem_append,
    List.forall_mem_cons, List.not_mem_nil, false_implies, implies_true, plain_nullary, plain_unary, plain_binary, and_self]

/-- Every operation of the reference is plain. -/
theorem plain_ops : ∀ op ∈ ops (F := F), Plain op := by
  have h := plain_threefry (F := F)
  simp only [ops, gumbelOps, uniformOps, main0, main1, main2, main3, gumbel0, gumbel1, uniform0, uniform1, argmax, take,
    List.forall_mem_append, List.forall_mem_cons, List.not_mem_nil, false_implies, implies_true, plain_nullary,
    plain_unary, plain_binary, plain_ternary, plain_quaternary, plain_reshape, and_self, true_and, and_true]
  exact h _ _ _ _ _

/-- No buffer of the reference is scoped. -/
theorem no_scoped_ref : (Finset.univ.filter fun b : Ref sig .tc => b.isScoped) = ∅ := by decide

/-- No semaphore of the reference is scoped. -/
theorem no_scoped_sem : (Finset.univ.filter fun s : SemLoc sig => s.isScoped .tc) = ∅ := by decide

/-- The reference ends with every buffer at the fold of its line's results over the launch contents, and every
    semaphore counter at zero. -/
theorem line_run (m : (ℓ : Loc nD τ sig) → Buf (Elt F) ℓ) (g : Dev nD → PrngReg) :
    θ_run (defs (F := F)) (onTc (τ := τ) (main (F := F))) ⟨m, fun _ => 0, g⟩ fun r =>
      (∀ (c : Dev nD) (b : Ref sig .tc), r.2.mem ((c.tc : Thread nD τ).loc b) = after ops (launchContents m c) (Proc.devRef .tc b)) ∧
        r.2.sem = fun _ => 0 :=
  (θ_run defs _ _).mono (fun r h => ⟨h, sem_eq_zero_of_no_sems (by rfl) r.2⟩)
    (run_seq no_scoped_ref no_scoped_sem defs main (fun _ => ops) main_eq
      (fun _ => List.forall_iff_forall_mem.mpr fun op h => (plain_ops op h).1) m g fun _ op h => (plain_ops op h).2)

end Cert.Proof.Ref

end
-- ==== Proof.ReferenceWords.lean ====
/- What the reference's generator computes at one element, group by group: each group of rounds takes a state and the
   key words to the next state, and the whole is `threefry`. -/
module

public import proofs.«01_k».proof.Proof.ReferenceOps
public import proofs.«01_k».proof.Proof.Threefry
public import Idealize.ShloMosaic.Lib.StableHlo.RunRead
public import Idealize.ShloMosaic.Lib.Pointwise.Index
public import Idealize.ShloMosaic.Lib.Pipeline.Frame

@[expose] public section

set_option maxRecDepth 8192
set_option maxHeartbeats 2000000

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The contents of the reference's buffers. -/
abbrev Mem (F : FTy → Type) := Valuation τ sig (Elt F)

/-- A list of the generator at the buffers of the program's one call of it. -/
abbrev atCall (l : TRef sig ⟨S_, .i32⟩ → TRef sig ⟨S_, .i32⟩ → TRef sig ⟨S16384x2, .i32⟩ → TRef sig ⟨S16384x2, .i32⟩ →
    fn_threefry2x32.Bufs → Line F) : Line F :=
  l (.of main_call0_call0_v4) (.of main_call0_call0_v6) (.of main_call0_call0_v17) (.of main_call0_call0_v16)
    main_call0_call0_call0

/-- The first key word held by `W`. -/
abbrev key0 (W : Mem F) : IVec S_ 32 := W (Proc.devRef .tc main_call0_call0_v4)

/-- The second key word held by `W`. -/
abbrev key1 (W : Mem F) : IVec S_ 32 := W (Proc.devRef .tc main_call0_call0_v6)

/-- The third key word held by `W`. -/
abbrev key2 (W : Mem F) : IVec S_ 32 := W (Proc.devRef .tc main_call0_call0_call0_v1)

/-- The counters' high words held by `W`. -/
abbrev high (W : Mem F) : IVec S16384x2 32 := W (Proc.devRef .tc main_call0_call0_v17)

/-- The counters' low words held by `W`. -/
abbrev low (W : Mem F) : IVec S16384x2 32 := W (Proc.devRef .tc main_call0_call0_v16)

/-- A scalar broadcast to a whole array is that scalar everywhere. -/
theorem broadcast_word {α : Type} {T : Shape} (dims : Fin S_.rank → Fin T.rank) (h : S_.BroadcastsInDim T dims)
    (x : S_.Idx → α) : broadcastInDim T dims h x = fun _ => x ix0 :=
  funext fun _ => congrArg x (funext fun a => a.elim0)

/-- `W` and `W'` hold the same key words. -/
def SameKeys (W W' : Mem F) : Prop := key0 W = key0 W' ∧ key1 W = key1 W' ∧ key2 W = key2 W'

/-- The state at the element `i` held by `W` in the buffers `a` and `b`. -/
abbrev pairAt (x y : IVec S16384x2 32) (i : S16384x2.Idx) : Word × Word := (x i, y i)

/-- Where the state before the first group lies, at the element `i`. -/
abbrev state0 (W : Mem F) (i : S16384x2.Idx) : Word × Word :=
  pairAt (W (Proc.devRef .tc main_call0_call0_call0_v6)) (W (Proc.devRef .tc main_call0_call0_call0_v5)) i

/-- The state after the first group, at the element `i`. -/
abbrev state1 (W : Mem F) (i : S16384x2.Idx) : Word × Word :=
  pairAt (W (Proc.devRef .tc main_call0_call0_call0_v40)) (W (Proc.devRef .tc main_call0_call0_call0_v39)) i

/-- The state after the second group, at the element `i`. -/
abbrev state2 (W : Mem F) (i : S16384x2.Idx) : Word × Word :=
  pairAt (W (Proc.devRef .tc main_call0_call0_call0_v74)) (W (Proc.devRef .tc main_call0_call0_call0_v73)) i

/-- The state after the third group, at the element `i`. -/
abbrev state3 (W : Mem F) (i : S16384x2.Idx) : Word × Word :=
  pairAt (W (Proc.devRef .tc main_call0_call0_call0_v108)) (W (Proc.devRef .tc main_call0_call0_call0_v107)) i

/-- The state after the fourth group, at the element `i`. -/
abbrev state4 (W : Mem F) (i : S16384x2.Idx) : Word × Word :=
  pairAt (W (Proc.devRef .tc main_call0_call0_call0_v142)) (W (Proc.devRef .tc main_call0_call0_call0_v141)) i

/-- The two lanes of the result, at the element `i`. -/
abbrev lanes (W : Mem F) (i : S16384x2.Idx) : Word × Word :=
  pairAt (W (Proc.devRef .tc main_call0_call0_v18_0)) (W (Proc.devRef .tc main_call0_call0_v18_1)) i

/-- The third key word and the additions that begin the first group. -/
theorem after_state0 (W : Mem F) (i : S16384x2.Idx) :
    state0 (after (atCall threefry0) W) i =
      opened ((high W i + key0 W ix0 : Word), (low W i + key1 W ix0 : Word)) := by
  simp only [state0, pairAt, atCall, threefry0]
  after_reads_simp
  simp only [TRef.ofBuf_toBuf, broadcast_word]
  rfl

/-- The key words after the first additions. -/
theorem keys_start (W : Mem F) :
    key0 (after (atCall threefry0) W) = key0 W ∧ key1 (after (atCall threefry0) W) = key1 W ∧
      key2 (after (atCall threefry0) W) = fun i => key0 W i ^^^ key1 W i ^^^ 466688986#32 := by
  simp only [key0, key1, key2, atCall, threefry0]
  after_reads_simp
  exact ⟨trivial, trivial, rfl⟩

/-- The first group of rounds. -/
theorem after_state1 (W : Mem F) (i : S16384x2.Idx) : state1 (after (atCall threefry1) W) i = opened (groupA (key1 W ix0) (key2 W ix0) 1#32 (state0 W i)) := by
  simp only [state1, state0, pairAt, key0, key1, key2, atCall, threefry1]
  after_reads_simp
  simp only [TRef.ofBuf_toBuf, broadcast_word]
  rfl

/-- The first group leaves the key words. -/
theorem keys_state1 (W : Mem F) : SameKeys (after (atCall threefry1) W) W := by
  simp only [SameKeys, key0, key1, key2, atCall, threefry1]
  after_reads_simp
  trivial

/-- The second group of rounds. -/
theorem after_state2 (W : Mem F) (i : S16384x2.Idx) : state2 (after (atCall threefry2) W) i = opened (groupB (key2 W ix0) (key0 W ix0) 2#32 (state1 W i)) := by
  simp only [state2, state1, pairAt, key0, key1, key2, atCall, threefry2]
  after_reads_simp
  simp only [TRef.ofBuf_toBuf, broadcast_word]
  rfl

/-- The second group leaves the key words. -/
theorem keys_state2 (W : Mem F) : SameKeys (after (atCall threefry2) W) W := by
  simp only [SameKeys, key0, key1, key2, atCall, threefry2]
  after_reads_simp
  trivial

/-- The third group of rounds. -/
theorem after_state3 (W : Mem F) (i : S16384x2.Idx) : state3 (after (atCall threefry3) W) i = opened (groupA (key0 W ix0) (key1 W ix0) 3#32 (state2 W i)) := by
  simp only [state3, state2, pairAt, key0, key1, key2, atCall, threefry3]
  after_reads_simp
  simp only [TRef.ofBuf_toBuf, broadcast_word]
  rfl

/-- The third group leaves the key words. -/
theorem keys_state3 (W : Mem F) : SameKeys (after (atCall threefry3) W) W := by
  simp only [SameKeys, key0, key1, key2, atCall, threefry3]
  after_reads_simp
  trivial

/-- The fourth group of rounds. -/
theorem after_state4 (W : Mem F) (i : S16384x2.Idx) : state4 (after (atCall threefry4) W) i = opened (groupB (key1 W ix0) (key2 W ix0) 4#32 (state3 W i)) := by
  simp only [state4, state3, pairAt, key0, key1, key2, atCall, threefry4]
  after_reads_simp
  simp only [TRef.ofBuf_toBuf, broadcast_word]
  rfl

/-- The fourth group leaves the key words. -/
theorem keys_state4 (W : Mem F) : SameKeys (after (atCall threefry4) W) W := by
  simp only [SameKeys, key0, key1, key2, atCall, threefry4]
  after_reads_simp
  trivial

/-- The fifth group of rounds. -/
theorem after_lanes (W : Mem F) (i : S16384x2.Idx) : lanes (after (atCall threefry5) W) i = groupA (key2 W ix0) (key0 W ix0) 5#32 (state4 W i) := by
  simp only [lanes, state4, pairAt, key0, key1, key2, atCall, threefry5]
  after_reads_simp
  simp only [TRef.ofBuf_toBuf, broadcast_word]
  rfl

/-- The whole generator at one element: `threefry` of the key and of the counter's words there. -/
theorem generator (W : Mem F) (i : S16384x2.Idx) :
    lanes (after (atCall threefryOps) W) i =
      threefry (key0 W ix0) (key1 W ix0) (key0 W ix0 ^^^ key1 W ix0 ^^^ 466688986#32)
        (high W i) (low W i) := by
  simp only [atCall, threefryOps, after_append]
  obtain ⟨h0, h1, h2⟩ := keys_start W
  have s1 := keys_state1 (after (atCall threefry0) W)
  have s2 := keys_state2 (after (atCall threefry1) (after (atCall threefry0) W))
  have s3 := keys_state3 (after (atCall threefry2) (after (atCall threefry1) (after (atCall threefry0) W)))
  have s4 := keys_state4 (after (atCall threefry3) (after (atCall threefry2) (after (atCall threefry1) (after (atCall threefry0) W))))
  rw [after_lanes, after_state4, after_state3, after_state2, after_state1, after_state0, s4.1, s4.2.2, s3.2.1, s3.1, s3.2.2, s2.1, s2.2.1,
    s2.2.2, s1.1, s1.2.1, s1.2.2, h0, h1, h2]
  rfl

end Cert.Proof.Ref

end
-- ==== Proof.ReferenceUniform.lean ====
/- What the reference's Gumbel numbers are at one element: the counters of the random words, the uniform numbers made of
   the words, and the two logarithms. -/
module

public import proofs.«01_k».proof.Proof.ReferenceWords
public import Idealize.ShloMosaic.PureOps.Ideal.Laws

@[expose] public section

set_option maxRecDepth 8192
set_option maxHeartbeats 2000000

noncomputable section

namespace Cert.Proof.Ref

open Cert.ReferenceIdeal Cert.ReferenceIdeal.Gen Idealize.ShloMosaic Idealize.ShloMosaic.TcCoe Idealize.SL.Sem Idealize.ShloMosaic.StableHlo

/-- The 64-bit counter of the element `i`: twice the row plus the column. -/
def counter64 (i : S16384x2.Idx) : BitVec 64 := 2#64 * BitVec.ofNat 64 (i 0).val + 1#64 * BitVec.ofNat 64 (i 1).val

/-- The 64-bit counter as a number. -/
theorem counter64_toNat (i : S16384x2.Idx) : (counter64 i).toNat = 2 * (i 0).val + (i 1).val := by
  have h0 : (i 0).val < 16384 := (i 0).isLt
  have h1 : (i 1).val < 2 := (i 1).isLt
  simp only [counter64, BitVec.toNat_add, BitVec.toNat_mul, BitVec.toNat_ofNat]
  omega

/-- The counter's low word is twice the row plus the column. -/
theorem counter_low (i : S16384x2.Idx) :
    (counter64 i).setWidth 32 = (BitVec.ofNat 32 (i 0).val * 2#32 + BitVec.ofNat 32 (i 1).val : Word) := by
  have h0 : (i 0).val < 16384 := (i 0).isLt
  have h1 : (i 1).val < 2 := (i 1).isLt
  apply BitVec.eq_of_toNat_eq
  simp only [BitVec.toNat_setWidth, counter64_toNat, BitVec.toNat_add, BitVec.toNat_mul, BitVec.toNat_ofNat]
  omega

/-- The counter's high word is zero. -/
theorem counter_high (i : S16384x2.Idx) : (counter64 i >>> 32).setWidth 32 = (0#32 : Word) := by
  have h0 : (i 0).val < 16384 := (i 0).isLt
  have h1 : (i 1).val < 2 := (i 1).isLt
  apply BitVec.eq_of_toNat_eq
  simp only [BitVec.toNat_setWidth, BitVec.toNat_ushiftRight, counter64_toNat, BitVec.toNat_ofNat, Nat.shiftRight_eq_div_pow]
  omega

/-- The list that prepares the generator's arguments, at the buffers of the program's one call. -/
abbrev prepared : Line Ideal := uniform0 (.of main_v20) (.of main_call0_cst) (.of main_call0_cst_0) main_call0_call0

/-- The generator's low counter words. -/
theorem prepared_low (W : Mem Ideal) (i : S16384x2.Idx) :
    low (after prepared W) i = (BitVec.ofNat 32 (i 0).val * 2#32 + BitVec.ofNat 32 (i 1).val : Word) := by
  rw [← counter_low]
  simp only [low, prepared, uniform0]
  after_reads_simp
  simp only [TRef.ofBuf_toBuf, broadcast_word]
  rfl

/-- The generator's high counter words. -/
theorem prepared_high (W : Mem Ideal) (i : S16384x2.Idx) : high (after prepared W) i = 0#32 := by
  rw [← counter_high i]
  simp only [high, prepared, uniform0]
  after_reads_simp
  simp only [TRef.ofBuf_toBuf, broadcast_word]
  rfl

/-- A one-element array read as a scalar. -/
theorem scalar_apply (y : IVec S1 32) (h : S1.ShapeCasts S_) : shapeCast S_ y h ix0 = y (ix1 0) :=
  congrArg y (funext fun a => Fin.ext (by
    fin_cases a
    have h1 : (Shape.reshapeEquiv h ix0 0).val < 1 := (Shape.reshapeEquiv h ix0 0).isLt
    exact Nat.lt_one_iff.mp h1))

/-- The generator's first key word. -/
theorem prepared_key0 (W : Mem Ideal) : key0 (after prepared W) ix0 = (W (Proc.devRef .tc main_v20) : IVec S2 32) (ix1 0) := by
  simp only [key0, prepared, uniform0]
  after_reads_simp
  refine (scalar_apply _ _).trans (congrArg (W (Proc.devRef .tc main_v20) : IVec S2 32) (funext fun a => ?_))
  fin_cases a
  rfl

/-- The generator's second key word. -/
theorem prepared_key1 (W : Mem Ideal) : key1 (after prepared W) ix0 = (W (Proc.devRef .tc main_v20) : IVec S2 32) (ix1 1) := by
  simp only [key1, prepared, uniform0]
  after_reads_simp
  refine (scalar_apply _ _).trans (congrArg (W (Proc.devRef .tc main_v20) : IVec S2 32) (funext fun a => ?_))
  fin_cases a
  rfl

/-- The low end of the interval, kept as a one-element array. -/
abbrev lowEnd (W : Mem Ideal) : FVec Ideal S1x1 .f32 := W (Proc.devRef .tc main_call0_call0_v1)

/-- The high end of the interval, kept as a one-element array. -/
abbrev highEnd (W : Mem Ideal) : FVec Ideal S1x1 .f32 := W (Proc.devRef .tc main_call0_call0_v2)

/-- The two ends of the interval. -/
theorem prepared_ends (W : Mem Ideal) (h0 : (W (Proc.devRef .tc main_call0_cst_0) : FVec Ideal S_ .f32) = fun _ => tiny)
    (h1 : (W (Proc.devRef .tc main_call0_cst) : FVec Ideal S_ .f32) = fun _ => one) :
    lowEnd (after prepared W) = (fun _ => tiny) ∧ highEnd (after prepared W) = fun _ => one := by
  simp only [lowEnd, highEnd, prepared, uniform0]
  after_reads_simp
  simp only [TRef.ofBuf_toBuf]
  constructor
  · exact congrArg (fun x : FVec Ideal S_ .f32 => broadcastInDim S1x1 ![] bcast_S_S1x1 x) h0
  · exact congrArg (fun x : FVec Ideal S_ .f32 => broadcastInDim S1x1 ![] bcast_S_S1x1 x) h1

/-- The generator leaves the ends of the interval. -/
theorem ends_kept (W : Mem Ideal) :
    lowEnd (after (atCall threefryOps) W) = lowEnd W ∧ highEnd (after (atCall threefryOps) W) = highEnd W := by
  simp only [lowEnd, highEnd, atCall, threefryOps, threefry0, threefry1, threefry2, threefry3, threefry4, threefry5, after_append]
  after_reads_simp
  trivial

/-- The uniform numbers held by `W`. -/
abbrev uniforms (W : Mem Ideal) : FVec Ideal S16384x2 .f32 := W (Proc.devRef .tc main_call0_v0)

/-- The reference's operations from the random words `x` to the uniform numbers between `a` and `b`. -/
def stretched (a b : FVec Ideal S1x1 .f32) (x : IVec S16384x2 32) : FVec Ideal S16384x2 .f32 :=
  maximumf (broadcastInDim S16384x2 ![0, 1] bcast_S1x1_S16384x2_0_1 a)
    (addf (mulf (subf (bitcastToFloat .f32 (ori (Host.shrui x fun _ => 9#32) fun _ => 1065353216#32)) fun _ => one)
      (broadcastInDim S16384x2 ![0, 1] bcast_S1x1_S16384x2_0_1 (subf b a)))
      (broadcastInDim S16384x2 ![0, 1] bcast_S1x1_S16384x2_0_1 a))

/-- Between `tiny` and one they are `uniform` of the words. -/
theorem stretched_apply (x : IVec S16384x2 32) (i : S16384x2.Idx) :
    stretched (fun _ => tiny) (fun _ => one) x i = uniform (x i) := rfl

/-- From the generator's lanes to the uniform numbers. -/
theorem to_uniform (W : Mem Ideal) (h0 : lowEnd W = fun _ => tiny) (h1 : highEnd W = fun _ => one) (i : S16384x2.Idx) :
    uniforms (after (uniform1 main_call0_call0) W) i = uniform ((lanes W i).1 ^^^ (lanes W i).2) := by
  simp only [uniforms, uniform1]
  after_reads_simp
  simp only [TRef.ofBuf_toBuf, broadcast_word]
  refine Eq.trans (b := stretched (lowEnd W) (highEnd W) (fun i => (lanes W i).1 ^^^ (lanes W i).2) i) rfl ?_
  rw [h0, h1, stretched_apply]

/-- The two logarithms. -/
theorem to_gumbel (W : Mem Ideal) (i : S16384x2.Idx) :
    (after (gumbel1 main_call0) W (Proc.devRef .tc main_v21) : FVec Ideal S16384x2 .f32) i =
      -Ideal.log (-Ideal.log (uniforms W i)) := by
  simp only [uniforms, gumbel1]
  after_reads_simp
  simp only [TRef.ofBuf_toBuf]
  rfl

/-- The program's line of Gumbel numbers. -/
abbrev gumbelLine : Line Ideal := gumbelOps (.of main_v20) main_call0

/-- The ends of the interval, as the Gumbel numbers' line writes them first. -/
theorem ends_written (W : Mem Ideal) :
    (after (gumbel0 main_call0) W (Proc.devRef .tc main_call0_cst_0) : FVec Ideal S_ .f32) = (fun _ => tiny) ∧
      ((after (gumbel0 main_call0) W (Proc.devRef .tc main_call0_cst) : FVec Ideal S_ .f32) = fun _ => one) ∧
      (after (gumbel0 main_call0) W (Proc.devRef .tc main_v20) : IVec S2 32) = W (Proc.devRef .tc main_v20) := by
  simp only [gumbel0]
  after_reads_simp
  exact ⟨rfl, rfl, trivial⟩

/-- With the key (0, 42), the Gumbel number of the element `i` is that of the random word whose counter is twice the row
    plus the column. -/
theorem gumbels (W : Mem Ideal) (k0 : (W (Proc.devRef .tc main_v20) : IVec S2 32) (ix1 0) = 0#32)
    (k1 : (W (Proc.devRef .tc main_v20) : IVec S2 32) (ix1 1) = 42#32) (i : S16384x2.Idx) :
    (after gumbelLine W (Proc.devRef .tc main_v21) : FVec Ideal S16384x2 .f32) i =
      gumbel (randomWord (BitVec.ofNat 32 (i 0).val * 2#32 + BitVec.ofNat 32 (i 1).val)) := by
  simp only [gumbelLine, gumbelOps, uniformOps, after_append]
  obtain ⟨e0, e1, e2⟩ := ends_written W
  obtain ⟨f0, f1⟩ := prepared_ends _ e0 e1
  obtain ⟨g0, g1⟩ := ends_kept (after prepared (after (gumbel0 main_call0) W))
  rw [to_gumbel, to_uniform _ (g0.trans f0) (g1.trans f1), generator, prepared_key0, prepared_key1, prepared_low,
    prepared_high, e2, k0, k1]
  rfl

/-- The Gumbel numbers' line leaves the log probabilities, the entropy and the argument. -/
theorem gumbels_keep (W : Mem Ideal) :
    after gumbelLine W (Proc.devRef .tc main_v9) = W (Proc.devRef .tc main_v9) ∧
      after gumbelLine W (Proc.devRef .tc main_v13) = W (Proc.devRef .tc main_v13) ∧
      after gumbelLine W (Proc.devRef .tc main_arg0) = W (Proc.devRef .tc main_arg0) := by
  simp only [gumbelLine, gumbelOps, uniformOps, threefryOps, gumbel0, uniform0, threefry0, threefry1, threefry2, threefry3,
    threefry4, threefry5, uniform1, gumbel1, after_append]
  after_reads_simp
  trivial

end Cert.Proof.Ref

end
-- ==== Proof.ReferenceProbs.lean ====
/- What the reference's first operations compute: the two probabilities, their logarithms, the entropy and the key. -/
module

public import proofs.«01_k».proof.Proof.ReferenceWords
public import proofs.«01_k».proof.Proof.Choice
public import Idealize.ShloMosaic.Lib.Pipeline.Value
public import Idealize.ShloMosaic.PureOps.Ideal.Laws
public import Idealize.ShloMosaic.Lib.IdealHost

@[expose] public section

set_option maxRecDepth 8192
set_option maxHeartbeats 2000000

noncomputable section

namespace Cert.Proof.Ref

open Cert.ReferenceIdeal Cert.ReferenceIdeal.Gen Idealize.ShloMosaic Idealize.ShloMosaic.TcCoe Idealize.SL.Sem Idealize.ShloMosaic.StableHlo

/-- The constant of the programs is the number one. -/
theorem one_eq : one = 1 := by
  simp [Ideal.ofBits, Ideal.ieee, -EReal.coe_mul]

/-- The column of the probabilities of class 1, as the reference computes it. -/
def col1 (x : FVec Ideal S16384x1 .f32) : FVec Ideal S16384x1 .f32 :=
  Host.divf (fun _ => one) (addf (fun _ => one) (Host.exp (Host.negf x)))

/-- The column of the probabilities of class 0. -/
def col0 (x : FVec Ideal S16384x1 .f32) : FVec Ideal S16384x1 .f32 := subf (fun _ => one) (col1 x)

/-- The two columns side by side. -/
def both (x : FVec Ideal S16384x1 .f32) : FVec Ideal S16384x2 .f32 :=
  sideBySide (col0 x) (col1 x)

/-- The logarithms of both columns. -/
def logs (x : FVec Ideal S16384x1 .f32) : FVec Ideal S16384x2 .f32 := Host.log (both x)

/-- The column of entropies. -/
def entropies (x : FVec Ideal S16384x1 .f32) : FVec Ideal S16384x1 .f32 :=
  Host.negf (broadcastInDim S16384x1 ![0] bcast_S16384_S16384x1_0
    (Host.reduceAdd (mulf (logs x) (both x)) (constant S_ .f32 0x00000000#32) reducesTo_S16384x2_S16384_d1 h_S_))

/-- The first column of probabilities at an index. -/
theorem col1_apply (x : FVec Ideal S16384x1 .f32) (i : S16384x1.Idx) : col1 x i = prob1 (x i) := by
  rw [prob1, Ideal.logistic, ← one_eq]
  rfl

/-- The other column at an index. -/
theorem col0_apply (x : FVec Ideal S16384x1 .f32) (i : S16384x1.Idx) : col0 x i = prob0 (x i) := by
  show one - col1 x i = _
  rw [col1_apply, prob0]

/-- The only column of the row `r`. -/
abbrev only (r : Fin 16384) : S16384x1.Idx := ix2 r (0 : Fin 1)

/-- The entry of the row `r` and the class `c`. -/
abbrev cell (r : Fin 16384) (c : Fin 2) : S16384x2.Idx := ix2 r c

/-- The row of a column's index. -/
abbrev rowFin (i : S16384x1.Idx) : Fin 16384 := i 0

/-- Every index of a column is its row's. -/
theorem only_row (i : S16384x1.Idx) : only (rowFin i) = i := by
  funext a
  match a with
  | ⟨0, _⟩ => rfl
  | ⟨1, h⟩ =>
    refine Fin.ext ?_
    have h1 : (i ⟨1, h⟩).val < 1 := (i ⟨1, h⟩).isLt
    show 0 = _
    omega

/-- The left entry of a row. -/
theorem both_left (x : FVec Ideal S16384x1 .f32) (r : Fin 16384) : both x (cell r 0) = prob0 (x (only r)) := by
  rw [← col0_apply]
  exact concatenate_pair_apply_left (s₁ := S16384x1) (s₂ := S16384x1) 1 (col0 x) (col1 x) concatenates_S16384x1_S16384x1_S16384x2_d1 (cell r 0) rfl (only r) (fun b => by fin_cases b <;> rfl)

/-- The right entry of a row. -/
theorem both_right (x : FVec Ideal S16384x1 .f32) (r : Fin 16384) : both x (cell r 1) = prob1 (x (only r)) := by
  rw [← col1_apply]
  exact concatenate_pair_apply_right (s₁ := S16384x1) (s₂ := S16384x1) 1 (col0 x) (col1 x) concatenates_S16384x1_S16384x1_S16384x2_d1 (cell r 1) rfl rfl (only r)
    (fun b hb => by fin_cases b <;> first | rfl | exact absurd rfl hb) rfl

/-- The left logarithm of a row. -/
theorem logs_left (x : FVec Ideal S16384x1 .f32) (r : Fin 16384) : logs x (cell r 0) = log0 (x (only r)) := by
  rw [log0, ← both_left]; rfl

/-- The right logarithm of a row. -/
theorem logs_right (x : FVec Ideal S16384x1 .f32) (r : Fin 16384) : logs x (cell r 1) = log1 (x (only r)) := by
  rw [log1, ← both_right]; rfl

/-- The sum over a row, from zero. -/
theorem row_sum (y : FVec Ideal S16384x2 .f32) (r : Fin 16384) :
    Host.reduceAdd y (constant S_ .f32 0x00000000#32) reducesTo_S16384x2_S16384_d1 h_S_ (ix1 r) =
      y (cell r 0) + y (cell r 1) := by
  have hr : S16384x2.Reduces [1] S16384 := by decide
  rw [ValueIdx.hostReduceAdd_apply, Idealize.ShloMosaic.Ideal.hostReduceAdd_single _ hr]
  refine (congrArg₂ (· + ·) Ideal.ofBits_zero_f32 (Fin.sum_univ_two _)).trans ?_
  rw [zero_add]
  have e0 : hr.lift (ix1 r) (0 : Fin 2) = cell r 0 := by funext a; fin_cases a <;> rfl
  have e1 : hr.lift (ix1 r) (1 : Fin 2) = cell r 1 := by funext a; fin_cases a <;> rfl
  exact congrArg₂ (· + ·) (congrArg y e0) (congrArg y e1)

/-- An array over the rows, as a column. -/
theorem column_apply {α : Type} (y : S16384.Idx → α) (r : Fin 16384) :
    broadcastInDim S16384x1 ![0] bcast_S16384_S16384x1_0 y (only r) = y (ix1 r) := by
  unfold broadcastInDim
  refine congrArg y (funext fun a => Fin.ext ?_)
  obtain rfl : a = 0 := Subsingleton.elim _ _
  rw [dif_neg (by decide)]
  rfl

/-- The entropy of a row. -/
theorem entropies_apply (x : FVec Ideal S16384x1 .f32) (r : Fin 16384) : entropies x (only r) = entropy (x (only r)) := by
  refine (congrArg (fun z : EReal => -z) ((column_apply _ r).trans (row_sum _ r))).trans ?_
  show -(logs x (cell r 0) * both x (cell r 0) + logs x (cell r 1) * both x (cell r 1)) = _
  rw [logs_left, logs_right, both_left, both_right, entropy]

/-- The argument held by `W`. -/
abbrev arg (W : Mem Ideal) : FVec Ideal S16384x1 .f32 := W (Proc.devRef .tc main_arg0)

/-- What the first operations leave in the buffers read later. -/
theorem probs_written (W : Mem Ideal) :
    (after main0 W (Proc.devRef .tc main_v9) : FVec Ideal S16384x2 .f32) = logs (arg W) ∧
      (after main0 W (Proc.devRef .tc main_v13) : FVec Ideal S16384x1 .f32) = entropies (arg W) ∧
      arg (after main0 W) = arg W := by
  simp only [arg, main0]
  after_reads_simp
  simp only [broadcast_word]
  exact ⟨rfl, rfl, trivial⟩

/-- The key's operations leave the buffers read later, and write the key (0, 42). -/
theorem key_written (W : Mem Ideal) :
    (after main1 W (Proc.devRef .tc main_v20) : IVec S2 32) (ix1 0) = 0#32 ∧
      (after main1 W (Proc.devRef .tc main_v20) : IVec S2 32) (ix1 1) = 42#32 ∧
      after main1 W (Proc.devRef .tc main_v9) = W (Proc.devRef .tc main_v9) ∧
      after main1 W (Proc.devRef .tc main_v13) = W (Proc.devRef .tc main_v13) ∧
      arg (after main1 W) = arg W := by
  simp only [arg, main1]
  after_reads_simp
  refine ⟨?_, ?_, trivial, trivial, trivial⟩
  · exact concatenate_pair_apply_left (t := S2) (s₁ := S1) (s₂ := S1) 0 _ _ _ (ix1 0) rfl (ix1 (0 : Fin 1)) (fun b => by fin_cases b; rfl)
  · exact concatenate_pair_apply_right (t := S2) (s₁ := S1) (s₂ := S1) 0 _ _ _ (ix1 1) rfl rfl (ix1 (0 : Fin 1))
      (fun b hb => absurd (Subsingleton.elim _ _) hb) rfl

end Cert.Proof.Ref

end
-- ==== Proof.ReferenceArgmax.lean ====
/- What the reference's argmax computes: a fold over the two entries of a row, which ends at class 1 exactly when its entry
   is the larger. -/
module

public import proofs.«01_k».proof.Proof.ReferenceProbs
public import Idealize.ShloMosaic.PureOps.Reduce

@[expose] public section

set_option maxRecDepth 8192

noncomputable section

namespace Cert.Proof.Ref

open Cert.ReferenceIdeal Cert.ReferenceIdeal.Gen Idealize.ShloMosaic Idealize.ShloMosaic.TcCoe Idealize.SL.Sem Idealize.ShloMosaic.StableHlo

/-- The numbers below `n` that satisfy `p`, in order, are the increasing list `l` that has the same members. -/
theorem filter_finRange {n : Nat} (p : Fin n → Bool) (l : List (Fin n)) (hl : l.Pairwise (· < ·))
    (h : ∀ k, p k = true ↔ k ∈ l) : (List.finRange n).filter p = l := by
  have hs : ((List.finRange n).filter p).Pairwise (· < ·) := (List.pairwise_lt_finRange n).filter _
  refine List.Perm.eq_of_pairwise (fun a b _ _ hab hba => absurd hab (lt_asymm hba)) hs hl ?_
  refine (List.perm_ext_iff_of_nodup (hs.imp fun h => ne_of_lt h) (hl.imp fun h => ne_of_lt h)).2 fun k => ?_
  rw [List.mem_filter, ← h k]
  simp

/-- The row-major position of an entry. -/
theorem cell_position (r : Fin 16384) (c : Fin 2) : (S16384x2.rowMajor (cell r c)).val = r.val * 2 + c.val := by
  rw [Shape.rowMajor_val_two]
  rfl

/-- Every entry's index is its row's and class's. -/
theorem cell_eta (i : S16384x2.Idx) : ∃ r c, i = cell r c := by
  refine ⟨i 0, i 1, funext fun a => ?_⟩
  fin_cases a <;> rfl

/-- The entries that the reduction over the classes takes to the row `r`. -/
theorem drop_cell (r q : Fin 16384) (c : Fin 2) : reducesTo_S16384x2_S16384_d1.drop (cell q c) = ix1 r ↔ q = r := by
  have e : reducesTo_S16384x2_S16384_d1.drop (cell q c) = ix1 q := by
    funext a
    obtain rfl : a = 0 := Subsingleton.elim _ _
    refine Fin.ext ?_
    exact Shape.ReducesTo.drop_apply_val_of_eq reducesTo_S16384x2_S16384_d1 (cell q c) 0 0
  rw [e]
  exact ⟨fun h => congrFun h 0, fun h => by rw [h]⟩

/-- The fold of a row goes over its two entries, in order. -/
theorem row_fiber {α β : Type} (x : S16384x2.Idx → α) (y : S16384x2.Idx → β) (r : Fin 16384) :
    Host.argReduceFiber x y reducesTo_S16384x2_S16384_d1 (ix1 r) =
      [(x (cell r 0), y (cell r 0)), (x (cell r 1), y (cell r 1))] := by
  rw [Host.argReduceFiber, filter_finRange _ [S16384x2.rowMajor (cell r 0), S16384x2.rowMajor (cell r 1)]]
  · simp only [List.map_cons, List.map_nil, Equiv.symm_apply_apply]
  · simp only [List.pairwise_cons, List.mem_singleton, forall_eq, List.not_mem_nil, false_implies, implies_true,
      List.Pairwise.nil, and_true]
    rw [Fin.lt_def, cell_position, cell_position]
    exact Nat.lt_succ_self _
  · intro k
    obtain ⟨i, rfl⟩ := S16384x2.rowMajor.surjective k
    obtain ⟨q, c, rfl⟩ := cell_eta i
    rw [Equiv.symm_apply_apply, decide_eq_true_iff, drop_cell]
    simp only [List.mem_cons, List.not_mem_nil, or_false, Equiv.apply_eq_iff_eq]
    constructor
    · rintro rfl
      fin_cases c
      · exact Or.inl rfl
      · exact Or.inr rfl
    · rintro (h | h)
      · exact congrFun h 0
      · exact congrFun h 0

/-- One step of the fold from a pair with a smaller or equal index: the new pair is taken when its value is larger, or
    equal with a smaller index. -/
theorem step (a b : Ideal .f32 × Word) :
    reducer_argmax_f32_i32 (F := Ideal) a b =
      (if b.1 < a.1 then a.1 else b.1, if b.1 < a.1 ∨ (a.1 = b.1 ∧ a.2.slt b.2 = true) then a.2 else b.2) := by
  have e : reducer_argmax_f32_i32 (F := Ideal) a b =
      (Scalar.select (BitVec.ofBool (decide (b.1 < a.1)) ||| BitVec.ofBool (decide (a.1 ≠ a.1))) a.1 b.1,
        Scalar.select ((BitVec.ofBool (decide (b.1 < a.1)) ||| BitVec.ofBool (decide (a.1 ≠ a.1))) |||
          (BitVec.ofBool (decide (a.1 = b.1)) &&& BitVec.ofBool (a.2.slt b.2))) a.2 b.2) := rfl
  rw [e]
  by_cases h1 : b.1 < a.1 <;> by_cases h2 : a.1 = b.1 <;> by_cases h3 : a.2.slt b.2 = true <;>
    simp [Scalar.select, h1, h2, h3]

/-- The class that the reference's argmax finds in the row `r` of `y`: class 1 when its entry is the larger. -/
theorem argmax_row (y : FVec Ideal S16384x2 .f32) (r : Fin 16384) :
    (Host.argReduce reducer_argmax_f32_i32 y (iotaInDim S16384x2 32 1) (constant S_ .f32 0xFF800000#32)
      (constantI S_ 32 0#32) reducesTo_S16384x2_S16384_d1 h_S_ (ix1 r)).2 =
      if y (cell r 0) < y (cell r 1) then (1#32 : Word) else 0#32 := by
  have hb : (constant S_ .f32 0xFF800000#32 : FVec Ideal S_ .f32) (Shape.Idx.first h_S_) = (⊥ : EReal) := by
    show Ideal.ofBits .f32 0xFF800000#32 = ⊥
    simp [Ideal.ofBits, Ideal.ieee]
  rw [Idealize.ShloMosaic.Ideal.argReduce_eq_reduce2, Host.reduce2_eq_foldl_fiber, row_fiber, hb]
  simp only [List.foldl_cons, List.foldl_nil, step]
  have i0 : iotaInDim S16384x2 32 1 (cell r 0) = 0#32 := rfl
  have i1 : iotaInDim S16384x2 32 1 (cell r 1) = 1#32 := rfl
  rw [i0, i1]
  have n : ¬ (y (cell r 0) < (⊥ : EReal)) := not_lt_bot
  simp only [n, if_false, false_or]
  by_cases h : (y (cell r 0) : EReal) < y (cell r 1)
  · have h' : ¬ (y (cell r 1) : EReal) < y (cell r 0) := lt_asymm h
    have h'' : ¬ (y (cell r 0) : EReal) = y (cell r 1) := ne_of_lt h
    simp [h, h', h'']
  · rcases lt_or_eq_of_le (not_lt.mp h) with h' | h'
    · simp [h, h', constantI]
    · simp [h', constantI]

end Cert.Proof.Ref

end
-- ==== Proof.ReferenceGather.lean ====
/- What the reference's gather computes: at an index that is 0 or 1 on every row, the entry of the row at that index. -/
module

public import proofs.«01_k».proof.Proof.ReferenceProbs

@[expose] public section

set_option maxRecDepth 8192
set_option maxHeartbeats 2000000

noncomputable section

namespace Cert.Proof.Ref

open Cert.ReferenceIdeal Cert.ReferenceIdeal.Gen Idealize.ShloMosaic Idealize.ShloMosaic.TcCoe Idealize.SL.Sem Idealize.ShloMosaic.StableHlo

/-- The dimension numbers of the reference's gather. -/
abbrev dims : GatherDims S16384x2 S16384x1x1 S16384x1 := gather_S16384x2_S16384x1x1_S16384x1_n_1_0_0_1_2_11

/-- The place of a row's index among the start indices. -/
abbrev place (r : Fin 16384) : S16384x1x1.Idx := ix3 r (0 : Fin 1) (0 : Fin 1)

/-- The gather of the row `r` reads the row's entry at its start index. -/
theorem gather_row (y : FVec Ideal S16384x2 .f32) (k : IVec S16384x1x1 32) (r : Fin 16384) :
    Host.gather dims y k (only r) =
      y (cell r ⟨min (k (place r)).toInt.toNat 1, Nat.lt_succ_of_le (Nat.min_le_right _ _)⟩) := by
  unfold Host.gather
  refine congrArg y (funext fun a => Fin.ext ?_)
  show dims.start (only r) k a + dims.batchCoord (only r) a + dims.offCoord (only r) a = _
  have h01 : a = 0 ∨ a = 1 := by fin_cases a <;> simp
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 2) ∈ dims.operandBatchingDims from List.mem_singleton.mpr rfl)]
    rfl
  · rw [GatherDims.batchCoord_eq_zero _ _ _ (by decide),
      GatherDims.offCoord_eq_zero _ _ _ (fun h => ((GatherDims.mem_sKept _ _).mp h).1 (List.mem_singleton.mpr rfl)),
      Nat.add_zero]
    unfold GatherDims.start
    rw [dif_pos (show (1 : Fin 2) ∈ dims.startIndexMap from List.mem_singleton.mpr rfl)]
    have hp : dims.siIdx (only r) ⟨List.idxOf (1 : Fin 2) dims.startIndexMap,
        List.idxOf_lt_length_iff.2 (List.mem_singleton.mpr rfl)⟩ = place r := by
      funext b
      refine Fin.ext ?_
      match b with
      | ⟨0, _⟩ => rfl
      | ⟨1, _⟩ => rfl
      | ⟨2, _⟩ => rfl
    rw [hp]
    rfl

/-- The reference's indices, with negative ones wrapped, one to a place. -/
def starts (k : IVec S16384x1 32) : IVec S16384x1x1 32 :=
  shapeCast S16384x1x1 (select (cmpi .slt k fun _ => 0#32) (addi k fun _ => 2#32) k) shapeCasts_S16384x1_S16384x1x1

/-- Which indices lie in range. -/
def inRange (k : IVec S16384x1 32) : IVec S16384x1 1 :=
  Host.reduce IntOp.andi (andi (cmpi .sge (starts k) fun _ => 0#32)
    (cmpi .sle (starts k) (broadcastInDim S16384x1x1 ![0, 1, 2] bcast_S1x1x1_S16384x1x1_0_1_2
      (broadcastInDim S1x1x1 ![2] bcast_S1_S1x1x1_2 (constantI S1 32 1#32)))))
    (constantI S_ 1 1#1) reducesTo_S16384x1x1_S16384x1_d2 h_S_

/-- The entries at the indices, a constant where an index is out of range. -/
def taken (y : FVec Ideal S16384x2 .f32) (k : IVec S16384x1 32) : FVec Ideal S16384x1 .f32 :=
  select (inRange k) (Host.gather dims y (starts k)) fun _ => Ideal.ofBits .f32 0x7FC00000#32

attribute [local irreducible] Host.reduce Host.gather in
/-- The gather's operations compute `taken`. -/
theorem take_written (W : Mem Ideal) :
    (after (take (.of main_v9) (.of main_v24) main_call2) W (Proc.devRef .tc main_v25) : FVec Ideal S16384x1 .f32) =
      taken (W (Proc.devRef .tc main_v9)) (W (Proc.devRef .tc main_v24)) := by
  simp only [take]
  after_reads_simp
  simp only [TRef.ofBuf_toBuf, broadcast_word]
  unfold taken inRange starts
  rfl

/-- An index that is 0 or 1 is its own start index. -/
theorem starts_apply (k : IVec S16384x1 32) (hk : ∀ i, k i = 0#32 ∨ k i = 1#32) (p : S16384x1x1.Idx) :
    starts k p = 0#32 ∨ starts k p = 1#32 := by
  unfold starts shapeCast
  generalize Shape.reshapeEquiv _ p = i
  have e : select (cmpi .slt k fun _ => 0#32) (addi k fun _ => 2#32) k i =
      Scalar.select (IntOp.cmpi .slt (k i) 0#32) (k i + 2#32) (k i) := rfl
  rw [e]
  rcases hk i with h | h <;> rw [h] <;> decide

/-- The start index of the row `r`. -/
theorem starts_place (k : IVec S16384x1 32) (hk : ∀ i, k i = 0#32 ∨ k i = 1#32) (r : Fin 16384) :
    starts k (place r) = k (only r) := by
  unfold starts
  rw [shapeCast_apply _ _ _ (only r) (by rw [Shape.rowMajor_val_two, Shape.rowMajor_val_three]; show r.val * 1 + 0 = (r.val * 1 + 0) * 1 + 0; omega)]
  show Scalar.select (IntOp.cmpi .slt (k (only r)) 0#32) (k (only r) + 2#32) (k (only r)) = _
  rcases hk (only r) with h | h <;> rw [h] <;> decide

/-- A conjunction of ones is one. -/
theorem all_ones {n : Nat} (g : Fin n → BitVec 1) (hg : ∀ i, g i = 1#1) (l : List (Fin n)) :
    l.foldl (fun r i => IntOp.andi r (g i)) 1#1 = 1#1 := by
  induction l with
  | nil => rfl
  | cons a l ih => rw [List.foldl_cons, hg]; exact ih

/-- Indices that are 0 or 1 lie in range. -/
theorem inRange_apply (k : IVec S16384x1 32) (hk : ∀ i, k i = 0#32 ∨ k i = 1#32) (i : S16384x1.Idx) : inRange k i = 1#1 := by
  unfold inRange Host.reduce
  refine all_ones _ (fun n => ?_) _
  generalize S16384x1x1.rowMajor.symm n = p
  have e : andi (cmpi .sge (starts k) fun _ => 0#32)
      (cmpi .sle (starts k) (broadcastInDim S16384x1x1 ![0, 1, 2] bcast_S1x1x1_S16384x1x1_0_1_2
        (broadcastInDim S1x1x1 ![2] bcast_S1_S1x1x1_2 (constantI S1 32 1#32)))) p =
      IntOp.andi (IntOp.cmpi .sge (starts k p) 0#32) (IntOp.cmpi .sle (starts k p) 1#32) := rfl
  rw [e]
  rcases starts_apply k hk p with h | h <;> rw [h] <;> decide

/-- At indices that are 0 or 1, the row's entry at its index. -/
theorem taken_apply (y : FVec Ideal S16384x2 .f32) (k : IVec S16384x1 32) (hk : ∀ i, k i = 0#32 ∨ k i = 1#32) (r : Fin 16384) :
    taken y k (only r) = if k (only r) = 1#32 then y (cell r 1) else y (cell r 0) := by
  have e : ∀ (c : IVec S16384x1 1) (a b : FVec Ideal S16384x1 .f32), select c a b (only r) =
      Scalar.select (c (only r)) (a (only r)) (b (only r)) := fun _ _ _ => rfl
  rw [taken, e, inRange_apply k hk, gather_row, starts_place k hk]
  rcases hk (only r) with h | h <;> rw [h] <;> rfl

end Cert.Proof.Ref

end
-- ==== Proof.ReferenceValue.lean ====
/- What the reference leaves in its results: the draws, the entropies and the log probabilities of the draws. -/
module

public import proofs.«01_k».proof.Proof.ReferenceRun
public import proofs.«01_k».proof.Proof.ReferenceUniform
public import proofs.«01_k».proof.Proof.ReferenceArgmax
public import proofs.«01_k».proof.Proof.ReferenceGather

@[expose] public section

set_option maxRecDepth 8192
set_option maxHeartbeats 2000000

noncomputable section

namespace Cert.Proof.Ref

open Cert.ReferenceIdeal Cert.ReferenceIdeal.Gen Idealize.ShloMosaic Idealize.ShloMosaic.TcCoe Idealize.SL.Sem Idealize.ShloMosaic.StableHlo

/-- The row of a column's index, as a word. -/
abbrev rowWord (i : S16384x1.Idx) : Word := BitVec.ofNat 32 (i 0).val

/-- The scores from the Gumbel numbers. -/
theorem scores_written (W : Mem Ideal) :
    (after main2 W (Proc.devRef .tc main_v22) : FVec Ideal S16384x2 .f32) =
        (addf (F := Ideal) (s := S16384x2) (φ := .f32) (W (Proc.devRef .tc main_v21)) (W (Proc.devRef .tc main_v9)) : FVec Ideal S16384x2 .f32) ∧
      after main2 W (Proc.devRef .tc main_v9) = W (Proc.devRef .tc main_v9) ∧
      after main2 W (Proc.devRef .tc main_v13) = W (Proc.devRef .tc main_v13) ∧
      arg (after main2 W) = arg W := by
  simp only [arg, main2]
  after_reads_simp
  trivial

/-- The classes found by the argmax in the scores `y`. -/
def classes (y : FVec Ideal S16384x2 .f32) : IVec S16384 32 := fun j =>
  (Host.argReduce reducer_argmax_f32_i32 y (iotaInDim S16384x2 32 1) (constant S_ .f32 0xFF800000#32)
    (constantI S_ 32 0#32) reducesTo_S16384x2_S16384_d1 h_S_ j).2

attribute [local irreducible] Host.argReduce in
/-- The argmax's operations write the classes. -/
theorem classes_written (W : Mem Ideal) :
    (after (argmax (.of main_v22) main_call1) W (Proc.devRef .tc main_v23) : IVec S16384 32) =
        classes (W (Proc.devRef .tc main_v22)) ∧
      after (argmax (.of main_v22) main_call1) W (Proc.devRef .tc main_v9) = W (Proc.devRef .tc main_v9) ∧
      after (argmax (.of main_v22) main_call1) W (Proc.devRef .tc main_v13) = W (Proc.devRef .tc main_v13) ∧
      arg (after (argmax (.of main_v22) main_call1) W) = arg W := by
  simp only [arg, argmax]
  after_reads_simp
  simp only [TRef.ofBuf_toBuf]
  unfold classes
  exact ⟨rfl, trivial, trivial, trivial⟩

/-- The classes as a column. -/
theorem column_written (W : Mem Ideal) :
    (after main3 W (Proc.devRef .tc main_v24) : IVec S16384x1 32) =
        broadcastInDim S16384x1 ![0] bcast_S16384_S16384x1_0 (W (Proc.devRef .tc main_v23) : IVec S16384 32) ∧
      after main3 W (Proc.devRef .tc main_v9) = W (Proc.devRef .tc main_v9) ∧
      after main3 W (Proc.devRef .tc main_v13) = W (Proc.devRef .tc main_v13) ∧
      arg (after main3 W) = arg W := by
  simp only [arg, main3]
  after_reads_simp
  trivial

/-- The gather's operations leave the other results and the argument. -/
theorem take_keeps (W : Mem Ideal) :
    after (take (.of main_v9) (.of main_v24) main_call2) W (Proc.devRef .tc main_v24) = W (Proc.devRef .tc main_v24) ∧
      after (take (.of main_v9) (.of main_v24) main_call2) W (Proc.devRef .tc main_v13) = W (Proc.devRef .tc main_v13) ∧
      arg (after (take (.of main_v9) (.of main_v24) main_call2) W) = arg W := by
  simp only [arg, take]
  after_reads_simp
  trivial

/-- The column of classes found in the scores `y`, element by element. -/
theorem classes_apply (y : FVec Ideal S16384x2 .f32) (r : Fin 16384) :
    broadcastInDim S16384x1 ![0] bcast_S16384_S16384x1_0 (classes y) (only r) =
      if y (cell r 0) < y (cell r 1) then (1#32 : Word) else 0#32 := (column_apply _ r).trans (argmax_row y r)

/-- The reference's line from the scores on, from a memory whose Gumbel numbers are those of the counters and whose log
    probabilities are those of `x`: the classes and their log probabilities. -/
theorem drawn (y : FVec Ideal S16384x2 .f32) (x : FVec Ideal S16384x1 .f32)
    (hy : ∀ i : S16384x2.Idx, y i = gumbel (randomWord (BitVec.ofNat 32 (i 0).val * 2#32 + BitVec.ofNat 32 (i 1).val)))
    (i : S16384x1.Idx) :
    broadcastInDim S16384x1 ![0] bcast_S16384_S16384x1_0 (classes (addf y (logs x))) i = action (rowWord i) (x i) ∧
      taken (logs x) (broadcastInDim S16384x1 ![0] bcast_S16384_S16384x1_0 (classes (addf y (logs x)))) i =
        chosen (rowWord i) (x i) := by
  obtain ⟨r, rfl⟩ : ∃ r, only r = i := ⟨rowFin i, only_row i⟩
  have a0 : addf y (logs x) (cell r 0) = score0 (BitVec.ofNat 32 r.val) (x (only r)) := by
    refine (congrArg₂ (fun a b : EReal => a + b) (hy (cell r 0)) (logs_left x r)).trans ?_
    unfold score0
    exact congrArg (fun n => gumbel (randomWord n) + log0 (x (only r))) (BitVec.add_zero _)
  have a1 : addf y (logs x) (cell r 1) = score1 (BitVec.ofNat 32 r.val) (x (only r)) :=
    congrArg₂ (fun a b : EReal => a + b) (hy (cell r 1)) (logs_right x r)
  have hk : ∀ q, broadcastInDim S16384x1 ![0] bcast_S16384_S16384x1_0 (classes (addf y (logs x))) (only q) = 0#32 ∨
      broadcastInDim S16384x1 ![0] bcast_S16384_S16384x1_0 (classes (addf y (logs x))) (only q) = 1#32 := by
    intro q
    rw [classes_apply]
    split
    · exact Or.inr rfl
    · exact Or.inl rfl
  have hk' : ∀ j, broadcastInDim S16384x1 ![0] bcast_S16384_S16384x1_0 (classes (addf y (logs x))) j = 0#32 ∨
      broadcastInDim S16384x1 ![0] bcast_S16384_S16384x1_0 (classes (addf y (logs x))) j = 1#32 := fun j =>
    only_row j ▸ hk (rowFin j)
  have e : rowWord (only r) = BitVec.ofNat 32 r.val := rfl
  rw [taken_apply _ _ hk', classes_apply, a0, a1, logs_left, logs_right, e, action, chosen]
  refine ⟨rfl, ?_⟩
  split <;> rfl

/-- What the reference's whole line leaves, from any memory. -/
theorem line_value (W : Mem Ideal) :
    (after ops W (Proc.devRef .tc main_v24) : IVec S16384x1 32) = (fun i => action (rowWord i) (arg W i)) ∧
      (after ops W (Proc.devRef .tc main_v13) : FVec Ideal S16384x1 .f32) = (fun i => entropy (arg W i)) ∧
      (after ops W (Proc.devRef .tc main_v25) : FVec Ideal S16384x1 .f32) = (fun i => chosen (rowWord i) (arg W i)) ∧
      arg (after ops W) = arg W := by
  obtain ⟨p9, p13, pa⟩ := probs_written W
  obtain ⟨k0, k1, k9, k13, ka⟩ := key_written (after main0 W)
  have gs := gumbels (after main1 (after main0 W)) k0 k1
  obtain ⟨g9, g13, ga⟩ := gumbels_keep (after main1 (after main0 W))
  obtain ⟨s22, s9, s13, sa⟩ := scores_written (after gumbelLine (after main1 (after main0 W)))
  obtain ⟨c23, c9, c13, ca⟩ := classes_written (after main2 (after gumbelLine (after main1 (after main0 W))))
  obtain ⟨d24, d9, d13, da⟩ := column_written (after (argmax (.of main_v22) main_call1) (after main2 (after gumbelLine (after main1 (after main0 W)))))
  have t25 := take_written (after main3 (after (argmax (.of main_v22) main_call1) (after main2 (after gumbelLine (after main1 (after main0 W))))))
  obtain ⟨t24, t13, ta⟩ := take_keeps (after main3 (after (argmax (.of main_v22) main_call1) (after main2 (after gumbelLine (after main1 (after main0 W))))))
  have l := (g9.trans k9).trans p9
  rw [d24, c23, s22, l] at t24
  rw [d24, d9, c9, s9, c23, s22, l] at t25
  simp only [ops, after_append]
  refine ⟨t24.trans (funext fun i => (drawn _ _ gs i).1), ?_, t25.trans (funext fun i => (drawn _ _ gs i).2), ?_⟩
  · refine (t13.trans (d13.trans (c13.trans (s13.trans (g13.trans (k13.trans p13)))))).trans (funext fun i => ?_)
    rw [← only_row i]
    exact entropies_apply _ _
  · exact ta.trans (da.trans (ca.trans (sa.trans (ga.trans (ka.trans pa)))))

variable (m : (ℓ : Loc nD τ sig) → Buf (Elt Ideal) ℓ) (g : Dev nD → PrngReg)

/-- The reference ends with the draws, the entropies and the drawn log probabilities of its argument, unchanged. -/
theorem reference_run : θ_run (defs (F := Ideal)) (onTc (τ := τ) (main (F := Ideal))) ⟨m, fun _ => 0, g⟩ (fun r => ∀ c : Dev nD,
      r.2.mem ((c.tc : Thread nD τ).loc main_v24) = (fun i => action (rowWord i) (m ((c.tc : Thread nD τ).loc main_arg0) i))
      ∧ r.2.mem ((c.tc : Thread nD τ).loc main_v13) = (fun i => entropy (m ((c.tc : Thread nD τ).loc main_arg0) i))
      ∧ r.2.mem ((c.tc : Thread nD τ).loc main_v25) = (fun i => chosen (rowWord i) (m ((c.tc : Thread nD τ).loc main_arg0) i))
      ∧ r.2.mem ((c.tc : Thread nD τ).loc main_arg0) = m ((c.tc : Thread nD τ).loc main_arg0)) :=
  (θ_run defs _ _).mono (fun _ h c =>
    have v := line_value (launchContents m c)
    ⟨(h.1 c main_v24).trans v.1, (h.1 c main_v13).trans v.2.1, (h.1 c main_v25).trans v.2.2.1,
      (h.1 c main_arg0).trans v.2.2.2⟩) (line_run m g)

/-- The reference runs, leaves its argument unchanged and every semaphore counter at zero. -/
theorem reference_frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (h.1 c main_arg0).trans (line_value (launchContents m c)).2.2.2, h.2⟩)
    (line_run m g)

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- The two runs end with equal results: both leave the draws, the entropies and the drawn log probabilities of the
    argument, element by element, the rows counted from zero in both. -/
theorem same_results : Cert.algebraic_KernelIdeal_ReferenceIdeal (hKernelIdeal := Cert.KernelIdeal.Gen.facts)
    (hReferenceIdeal := Cert.ReferenceIdeal.Gen.facts) := by
  intro m g m' g' _ hagree
  refine ⟨_, _, _, kernel_run m g, ?_⟩
  refine (θ_run _ _ _).mono (fun r h c => ?_) (Ref.reference_run m' g')
  obtain ⟨h0, h1, h2, h3⟩ := h c
  rw [hagree c] at h0 h1 h2
  exact ⟨h0, h1, h2, h3⟩

/-- Everything the certificate claims. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    fun m g _ => Ref.reference_frame m g, trivial, same_results⟩

end Cert.Proof

end
